-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S1x768 : Shape := ⟨2, ![1, 768]⟩
abbrev S32x1x768 : Shape := ⟨3, ![32, 1, 768]⟩
abbrev S32 : Shape := ⟨1, ![32]⟩
abbrev S_ : Shape := ⟨0, ![]⟩
abbrev S768 : Shape := ⟨1, ![768]⟩
abbrev S1x1x768 : Shape := ⟨3, ![1, 1, 768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .bf16⟩
  | .hbm, ⟨1, _⟩ => ⟨S1x768, .bf16⟩
  | .local _ .vmem, ⟨0, _⟩ => ⟨S1x768, .bf16⟩
  | .local _ .vmem, ⟨1, _⟩ => ⟨S1536x768, .bf16⟩
  | .local _ .vmem, ⟨2, _⟩ => ⟨S32x1x768, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v410 : Index := Scalar.indexCast v2
  let c0_280 : Index := 0#32
  let c0_281 : Index := 0#32
  ![v410.toNat, 0, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_293 : BitVec 32 := 0#32
  let c0_i32_294 : BitVec 32 := 0#32
  ![v2.toNat, 0, 0]
def k0_dev32 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_283 : BitVec 32 := 16#32
  let v414 : BitVec 32 := Scalar.addi v2 c16_i32_283
  let c32_i32_284 : BitVec 32 := 32#32
  let c0_i32_285 : BitVec 32 := 0#32
  let v415 : BitVec 1 := Scalar.cmpi .eq c32_i32_284 c0_i32_285
  let c1_i32_286 : BitVec 32 := 1#32
  let v416 : BitVec 32 := Scalar.select v415 c1_i32_286 c32_i32_284
  let v417 : BitVec 32 := Scalar.remsi v414 v416
  let c0_i32_288 : BitVec 32 := 0#32
  let v419 : BitVec 1 := Scalar.cmpi .slt v417 c0_i32_288
  let c0_i32_289 : BitVec 32 := 0#32
  let v420 : BitVec 1 := Scalar.cmpi .slt v416 c0_i32_289
  let v421 : BitVec 1 := Scalar.xori v419 v420
  let c0_i32_287 : BitVec 32 := 0#32
  let v418 : BitVec 1 := Scalar.cmpi .ne v417 c0_i32_287
  let v422 : BitVec 1 := Scalar.andi v421 v418
  let v423 : BitVec 32 := Scalar.addi v417 v416
  let v424 : BitVec 32 := Scalar.select v422 v423 v417
  let c1_i32_291 : BitVec 32 := 1#32
  let v425 : BitVec 32 := Scalar.muli v424 c1_i32_291
  let v426 : BitVec 32 := Scalar.addi c0_i32_292 v425
  v426.toNat
def k0_dev33 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_297 : BitVec 32 := 15#32
  let v435 : BitVec 32 := Scalar.addi v2 c15_i32_297
  let c32_i32_298 : BitVec 32 := 32#32
  let c0_i32_299 : BitVec 32 := 0#32
  let v436 : BitVec 1 := Scalar.cmpi .eq c32_i32_298 c0_i32_299
  let c1_i32_300 : BitVec 32 := 1#32
  let v437 : BitVec 32 := Scalar.select v436 c1_i32_300 c32_i32_298
  let v438 : BitVec 32 := Scalar.remsi v435 v437
  let c0_i32_302 : BitVec 32 := 0#32
  let v440 : BitVec 1 := Scalar.cmpi .slt v438 c0_i32_302
  let c0_i32_303 : BitVec 32 := 0#32
  let v441 : BitVec 1 := Scalar.cmpi .slt v437 c0_i32_303
  let v442 : BitVec 1 := Scalar.xori v440 v441
  let c0_i32_301 : BitVec 32 := 0#32
  let v439 : BitVec 1 := Scalar.cmpi .ne v438 c0_i32_301
  let v443 : BitVec 1 := Scalar.andi v442 v439
  let v444 : BitVec 32 := Scalar.addi v438 v437
  let v445 : BitVec 32 := Scalar.select v443 v444 v438
  let c1_i32_305 : BitVec 32 := 1#32
  let v446 : BitVec 32 := Scalar.muli v445 c1_i32_305
  let v447 : BitVec 32 := Scalar.addi c0_i32_306 v446
  v447.toNat
def k0_dev34 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_311 : BitVec 32 := 17#32
  let v456 : BitVec 32 := Scalar.addi v2 c17_i32_311
  let c32_i32_312 : BitVec 32 := 32#32
  let c0_i32_313 : BitVec 32 := 0#32
  let v457 : BitVec 1 := Scalar.cmpi .eq c32_i32_312 c0_i32_313
  let c1_i32_314 : BitVec 32 := 1#32
  let v458 : BitVec 32 := Scalar.select v457 c1_i32_314 c32_i32_312
  let v459 : BitVec 32 := Scalar.remsi v456 v458
  let c0_i32_316 : BitVec 32 := 0#32
  let v461 : BitVec 1 := Scalar.cmpi .slt v459 c0_i32_316
  let c0_i32_317 : BitVec 32 := 0#32
  let v462 : BitVec 1 := Scalar.cmpi .slt v458 c0_i32_317
  let v463 : BitVec 1 := Scalar.xori v461 v462
  let c0_i32_315 : BitVec 32 := 0#32
  let v460 : BitVec 1 := Scalar.cmpi .ne v459 c0_i32_315
  let v464 : BitVec 1 := Scalar.andi v463 v460
  let v465 : BitVec 32 := Scalar.addi v459 v458
  let v466 : BitVec 32 := Scalar.select v464 v465 v459
  let c1_i32_319 : BitVec 32 := 1#32
  let v467 : BitVec 32 := Scalar.muli v466 c1_i32_319
  let v468 : BitVec 32 := Scalar.addi c0_i32_320 v467
  v468.toNat
def k0_dev35 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_325 : BitVec 32 := 14#32
  let v477 : BitVec 32 := Scalar.addi v2 c14_i32_325
  let c32_i32_326 : BitVec 32 := 32#32
  let c0_i32_327 : BitVec 32 := 0#32
  let v478 : BitVec 1 := Scalar.cmpi .eq c32_i32_326 c0_i32_327
  let c1_i32_328 : BitVec 32 := 1#32
  let v479 : BitVec 32 := Scalar.select v478 c1_i32_328 c32_i32_326
  let v480 : BitVec 32 := Scalar.remsi v477 v479
  let c0_i32_330 : BitVec 32 := 0#32
  let v482 : BitVec 1 := Scalar.cmpi .slt v480 c0_i32_330
  let c0_i32_331 : BitVec 32 := 0#32
  let v483 : BitVec 1 := Scalar.cmpi .slt v479 c0_i32_331
  let v484 : BitVec 1 := Scalar.xori v482 v483
  let c0_i32_329 : BitVec 32 := 0#32
  let v481 : BitVec 1 := Scalar.cmpi .ne v480 c0_i32_329
  let v485 : BitVec 1 := Scalar.andi v484 v481
  let v486 : BitVec 32 := Scalar.addi v480 v479
  let v487 : BitVec 32 := Scalar.select v485 v486 v480
  let c1_i32_333 : BitVec 32 := 1#32
  let v488 : BitVec 32 := Scalar.muli v487 c1_i32_333
  let v489 : BitVec 32 := Scalar.addi c0_i32_334 v488
  v489.toNat
def k0_dev36 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_339 : BitVec 32 := 18#32
  let v498 : BitVec 32 := Scalar.addi v2 c18_i32_339
  let c32_i32_340 : BitVec 32 := 32#32
  let c0_i32_341 : BitVec 32 := 0#32
  let v499 : BitVec 1 := Scalar.cmpi .eq c32_i32_340 c0_i32_341
  let c1_i32_342 : BitVec 32 := 1#32
  let v500 : BitVec 32 := Scalar.select v499 c1_i32_342 c32_i32_340
  let v501 : BitVec 32 := Scalar.remsi v498 v500
  let c0_i32_344 : BitVec 32 := 0#32
  let v503 : BitVec 1 := Scalar.cmpi .slt v501 c0_i32_344
  let c0_i32_345 : BitVec 32 := 0#32
  let v504 : BitVec 1 := Scalar.cmpi .slt v500 c0_i32_345
  let v505 : BitVec 1 := Scalar.xori v503 v504
  let c0_i32_343 : BitVec 32 := 0#32
  let v502 : BitVec 1 := Scalar.cmpi .ne v501 c0_i32_343
  let v506 : BitVec 1 := Scalar.andi v505 v502
  let v507 : BitVec 32 := Scalar.addi v501 v500
  let v508 : BitVec 32 := Scalar.select v506 v507 v501
  let c1_i32_347 : BitVec 32 := 1#32
  let v509 : BitVec 32 := Scalar.muli v508 c1_i32_347
  let v510 : BitVec 32 := Scalar.addi c0_i32_348 v509
  v510.toNat
def k0_dev37 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_353 : BitVec 32 := 13#32
  let v519 : BitVec 32 := Scalar.addi v2 c13_i32_353
  let c32_i32_354 : BitVec 32 := 32#32
  let c0_i32_355 : BitVec 32 := 0#32
  let v520 : BitVec 1 := Scalar.cmpi .eq c32_i32_354 c0_i32_355
  let c1_i32_356 : BitVec 32 := 1#32
  let v521 : BitVec 32 := Scalar.select v520 c1_i32_356 c32_i32_354
  let v522 : BitVec 32 := Scalar.remsi v519 v521
  let c0_i32_358 : BitVec 32 := 0#32
  let v524 : BitVec 1 := Scalar.cmpi .slt v522 c0_i32_358
  let c0_i32_359 : BitVec 32 := 0#32
  let v525 : BitVec 1 := Scalar.cmpi .slt v521 c0_i32_359
  let v526 : BitVec 1 := Scalar.xori v524 v525
  let c0_i32_357 : BitVec 32 := 0#32
  let v523 : BitVec 1 := Scalar.cmpi .ne v522 c0_i32_357
  let v527 : BitVec 1 := Scalar.andi v526 v523
  let v528 : BitVec 32 := Scalar.addi v522 v521
  let v529 : BitVec 32 := Scalar.select v527 v528 v522
  let c1_i32_361 : BitVec 32 := 1#32
  let v530 : BitVec 32 := Scalar.muli v529 c1_i32_361
  let v531 : BitVec 32 := Scalar.addi c0_i32_362 v530
  v531.toNat
def k0_dev38 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_367 : BitVec 32 := 19#32
  let v540 : BitVec 32 := Scalar.addi v2 c19_i32_367
  let c32_i32_368 : BitVec 32 := 32#32
  let c0_i32_369 : BitVec 32 := 0#32
  let v541 : BitVec 1 := Scalar.cmpi .eq c32_i32_368 c0_i32_369
  let c1_i32_370 : BitVec 32 := 1#32
  let v542 : BitVec 32 := Scalar.select v541 c1_i32_370 c32_i32_368
  let v543 : BitVec 32 := Scalar.remsi v540 v542
  let c0_i32_372 : BitVec 32 := 0#32
  let v545 : BitVec 1 := Scalar.cmpi .slt v543 c0_i32_372
  let c0_i32_373 : BitVec 32 := 0#32
  let v546 : BitVec 1 := Scalar.cmpi .slt v542 c0_i32_373
  let v547 : BitVec 1 := Scalar.xori v545 v546
  let c0_i32_371 : BitVec 32 := 0#32
  let v544 : BitVec 1 := Scalar.cmpi .ne v543 c0_i32_371
  let v548 : BitVec 1 := Scalar.andi v547 v544
  let v549 : BitVec 32 := Scalar.addi v543 v542
  let v550 : BitVec 32 := Scalar.select v548 v549 v543
  let c1_i32_375 : BitVec 32 := 1#32
  let v551 : BitVec 32 := Scalar.muli v550 c1_i32_375
  let v552 : BitVec 32 := Scalar.addi c0_i32_376 v551
  v552.toNat
def k0_dev39 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_381 : BitVec 32 := 12#32
  let v561 : BitVec 32 := Scalar.addi v2 c12_i32_381
  let c32_i32_382 : BitVec 32 := 32#32
  let c0_i32_383 : BitVec 32 := 0#32
  let v562 : BitVec 1 := Scalar.cmpi .eq c32_i32_382 c0_i32_383
  let c1_i32_384 : BitVec 32 := 1#32
  let v563 : BitVec 32 := Scalar.select v562 c1_i32_384 c32_i32_382
  let v564 : BitVec 32 := Scalar.remsi v561 v563
  let c0_i32_386 : BitVec 32 := 0#32
  let v566 : BitVec 1 := Scalar.cmpi .slt v564 c0_i32_386
  let c0_i32_387 : BitVec 32 := 0#32
  let v567 : BitVec 1 := Scalar.cmpi .slt v563 c0_i32_387
  let v568 : BitVec 1 := Scalar.xori v566 v567
  let c0_i32_385 : BitVec 32 := 0#32
  let v565 : BitVec 1 := Scalar.cmpi .ne v564 c0_i32_385
  let v569 : BitVec 1 := Scalar.andi v568 v565
  let v570 : BitVec 32 := Scalar.addi v564 v563
  let v571 : BitVec 32 := Scalar.select v569 v570 v564
  let c1_i32_389 : BitVec 32 := 1#32
  let v572 : BitVec 32 := Scalar.muli v571 c1_i32_389
  let v573 : BitVec 32 := Scalar.addi c0_i32_390 v572
  v573.toNat
def k0_dev40 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_395 : BitVec 32 := 20#32
  let v582 : BitVec 32 := Scalar.addi v2 c20_i32_395
  let c32_i32_396 : BitVec 32 := 32#32
  let c0_i32_397 : BitVec 32 := 0#32
  let v583 : BitVec 1 := Scalar.cmpi .eq c32_i32_396 c0_i32_397
  let c1_i32_398 : BitVec 32 := 1#32
  let v584 : BitVec 32 := Scalar.select v583 c1_i32_398 c32_i32_396
  let v585 : BitVec 32 := Scalar.remsi v582 v584
  let c0_i32_400 : BitVec 32 := 0#32
  let v587 : BitVec 1 := Scalar.cmpi .slt v585 c0_i32_400
  let c0_i32_401 : BitVec 32 := 0#32
  let v588 : BitVec 1 := Scalar.cmpi .slt v584 c0_i32_401
  let v589 : BitVec 1 := Scalar.xori v587 v588
  let c0_i32_399 : BitVec 32 := 0#32
  let v586 : BitVec 1 := Scalar.cmpi .ne v585 c0_i32_399
  let v590 : BitVec 1 := Scalar.andi v589 v586
  let v591 : BitVec 32 := Scalar.addi v585 v584
  let v592 : BitVec 32 := Scalar.select v590 v591 v585
  let c1_i32_403 : BitVec 32 := 1#32
  let v593 : BitVec 32 := Scalar.muli v592 c1_i32_403
  let v594 : BitVec 32 := Scalar.addi c0_i32_404 v593
  v594.toNat
def k0_dev41 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_409 : BitVec 32 := 11#32
  let v603 : BitVec 32 := Scalar.addi v2 c11_i32_409
  let c32_i32_410 : BitVec 32 := 32#32
  let c0_i32_411 : BitVec 32 := 0#32
  let v604 : BitVec 1 := Scalar.cmpi .eq c32_i32_410 c0_i32_411
  let c1_i32_412 : BitVec 32 := 1#32
  let v605 : BitVec 32 := Scalar.select v604 c1_i32_412 c32_i32_410
  let v606 : BitVec 32 := Scalar.remsi v603 v605
  let c0_i32_414 : BitVec 32 := 0#32
  let v608 : BitVec 1 := Scalar.cmpi .slt v606 c0_i32_414
  let c0_i32_415 : BitVec 32 := 0#32
  let v609 : BitVec 1 := Scalar.cmpi .slt v605 c0_i32_415
  let v610 : BitVec 1 := Scalar.xori v608 v609
  let c0_i32_413 : BitVec 32 := 0#32
  let v607 : BitVec 1 := Scalar.cmpi .ne v606 c0_i32_413
  let v611 : BitVec 1 := Scalar.andi v610 v607
  let v612 : BitVec 32 := Scalar.addi v606 v605
  let v613 : BitVec 32 := Scalar.select v611 v612 v606
  let c1_i32_417 : BitVec 32 := 1#32
  let v614 : BitVec 32 := Scalar.muli v613 c1_i32_417
  let v615 : BitVec 32 := Scalar.addi c0_i32_418 v614
  v615.toNat
def k0_dev42 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_423 : BitVec 32 := 21#32
  let v624 : BitVec 32 := Scalar.addi v2 c21_i32_423
  let c32_i32_424 : BitVec 32 := 32#32
  let c0_i32_425 : BitVec 32 := 0#32
  let v625 : BitVec 1 := Scalar.cmpi .eq c32_i32_424 c0_i32_425
  let c1_i32_426 : BitVec 32 := 1#32
  let v626 : BitVec 32 := Scalar.select v625 c1_i32_426 c32_i32_424
  let v627 : BitVec 32 := Scalar.remsi v624 v626
  let c0_i32_428 : BitVec 32 := 0#32
  let v629 : BitVec 1 := Scalar.cmpi .slt v627 c0_i32_428
  let c0_i32_429 : BitVec 32 := 0#32
  let v630 : BitVec 1 := Scalar.cmpi .slt v626 c0_i32_429
  let v631 : BitVec 1 := Scalar.xori v629 v630
  let c0_i32_427 : BitVec 32 := 0#32
  let v628 : BitVec 1 := Scalar.cmpi .ne v627 c0_i32_427
  let v632 : BitVec 1 := Scalar.andi v631 v628
  let v633 : BitVec 32 := Scalar.addi v627 v626
  let v634 : BitVec 32 := Scalar.select v632 v633 v627
  let c1_i32_431 : BitVec 32 := 1#32
  let v635 : BitVec 32 := Scalar.muli v634 c1_i32_431
  let v636 : BitVec 32 := Scalar.addi c0_i32_432 v635
  v636.toNat
def k0_dev43 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_437 : BitVec 32 := 10#32
  let v645 : BitVec 32 := Scalar.addi v2 c10_i32_437
  let c32_i32_438 : BitVec 32 := 32#32
  let c0_i32_439 : BitVec 32 := 0#32
  let v646 : BitVec 1 := Scalar.cmpi .eq c32_i32_438 c0_i32_439
  let c1_i32_440 : BitVec 32 := 1#32
  let v647 : BitVec 32 := Scalar.select v646 c1_i32_440 c32_i32_438
  let v648 : BitVec 32 := Scalar.remsi v645 v647
  let c0_i32_442 : BitVec 32 := 0#32
  let v650 : BitVec 1 := Scalar.cmpi .slt v648 c0_i32_442
  let c0_i32_443 : BitVec 32 := 0#32
  let v651 : BitVec 1 := Scalar.cmpi .slt v647 c0_i32_443
  let v652 : BitVec 1 := Scalar.xori v650 v651
  let c0_i32_441 : BitVec 32 := 0#32
  let v649 : BitVec 1 := Scalar.cmpi .ne v648 c0_i32_441
  let v653 : BitVec 1 := Scalar.andi v652 v649
  let v654 : BitVec 32 := Scalar.addi v648 v647
  let v655 : BitVec 32 := Scalar.select v653 v654 v648
  let c1_i32_445 : BitVec 32 := 1#32
  let v656 : BitVec 32 := Scalar.muli v655 c1_i32_445
  let v657 : BitVec 32 := Scalar.addi c0_i32_446 v656
  v657.toNat
def k0_dev44 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_451 : BitVec 32 := 22#32
  let v666 : BitVec 32 := Scalar.addi v2 c22_i32_451
  let c32_i32_452 : BitVec 32 := 32#32
  let c0_i32_453 : BitVec 32 := 0#32
  let v667 : BitVec 1 := Scalar.cmpi .eq c32_i32_452 c0_i32_453
  let c1_i32_454 : BitVec 32 := 1#32
  let v668 : BitVec 32 := Scalar.select v667 c1_i32_454 c32_i32_452
  let v669 : BitVec 32 := Scalar.remsi v666 v668
  let c0_i32_456 : BitVec 32 := 0#32
  let v671 : BitVec 1 := Scalar.cmpi .slt v669 c0_i32_456
  let c0_i32_457 : BitVec 32 := 0#32
  let v672 : BitVec 1 := Scalar.cmpi .slt v668 c0_i32_457
  let v673 : BitVec 1 := Scalar.xori v671 v672
  let c0_i32_455 : BitVec 32 := 0#32
  let v670 : BitVec 1 := Scalar.cmpi .ne v669 c0_i32_455
  let v674 : BitVec 1 := Scalar.andi v673 v670
  let v675 : BitVec 32 := Scalar.addi v669 v668
  let v676 : BitVec 32 := Scalar.select v674 v675 v669
  let c1_i32_459 : BitVec 32 := 1#32
  let v677 : BitVec 32 := Scalar.muli v676 c1_i32_459
  let v678 : BitVec 32 := Scalar.addi c0_i32_460 v677
  v678.toNat
def k0_dev45 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_465 : BitVec 32 := 9#32
  let v687 : BitVec 32 := Scalar.addi v2 c9_i32_465
  let c32_i32_466 : BitVec 32 := 32#32
  let c0_i32_467 : BitVec 32 := 0#32
  let v688 : BitVec 1 := Scalar.cmpi .eq c32_i32_466 c0_i32_467
  let c1_i32_468 : BitVec 32 := 1#32
  let v689 : BitVec 32 := Scalar.select v688 c1_i32_468 c32_i32_466
  let v690 : BitVec 32 := Scalar.remsi v687 v689
  let c0_i32_470 : BitVec 32 := 0#32
  let v692 : BitVec 1 := Scalar.cmpi .slt v690 c0_i32_470
  let c0_i32_471 : BitVec 32 := 0#32
  let v693 : BitVec 1 := Scalar.cmpi .slt v689 c0_i32_471
  let v694 : BitVec 1 := Scalar.xori v692 v693
  let c0_i32_469 : BitVec 32 := 0#32
  let v691 : BitVec 1 := Scalar.cmpi .ne v690 c0_i32_469
  let v695 : BitVec 1 := Scalar.andi v694 v691
  let v696 : BitVec 32 := Scalar.addi v690 v689
  let v697 : BitVec 32 := Scalar.select v695 v696 v690
  let c1_i32_473 : BitVec 32 := 1#32
  let v698 : BitVec 32 := Scalar.muli v697 c1_i32_473
  let v699 : BitVec 32 := Scalar.addi c0_i32_474 v698
  v699.toNat
def k0_dev46 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_479 : BitVec 32 := 23#32
  let v708 : BitVec 32 := Scalar.addi v2 c23_i32_479
  let c32_i32_480 : BitVec 32 := 32#32
  let c0_i32_481 : BitVec 32 := 0#32
  let v709 : BitVec 1 := Scalar.cmpi .eq c32_i32_480 c0_i32_481
  let c1_i32_482 : BitVec 32 := 1#32
  let v710 : BitVec 32 := Scalar.select v709 c1_i32_482 c32_i32_480
  let v711 : BitVec 32 := Scalar.remsi v708 v710
  let c0_i32_484 : BitVec 32 := 0#32
  let v713 : BitVec 1 := Scalar.cmpi .slt v711 c0_i32_484
  let c0_i32_485 : BitVec 32 := 0#32
  let v714 : BitVec 1 := Scalar.cmpi .slt v710 c0_i32_485
  let v715 : BitVec 1 := Scalar.xori v713 v714
  let c0_i32_483 : BitVec 32 := 0#32
  let v712 : BitVec 1 := Scalar.cmpi .ne v711 c0_i32_483
  let v716 : BitVec 1 := Scalar.andi v715 v712
  let v717 : BitVec 32 := Scalar.addi v711 v710
  let v718 : BitVec 32 := Scalar.select v716 v717 v711
  let c1_i32_487 : BitVec 32 := 1#32
  let v719 : BitVec 32 := Scalar.muli v718 c1_i32_487
  let v720 : BitVec 32 := Scalar.addi c0_i32_488 v719
  v720.toNat
def k0_dev47 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_493 : BitVec 32 := 8#32
  let v729 : BitVec 32 := Scalar.addi v2 c8_i32_493
  let c32_i32_494 : BitVec 32 := 32#32
  let c0_i32_495 : BitVec 32 := 0#32
  let v730 : BitVec 1 := Scalar.cmpi .eq c32_i32_494 c0_i32_495
  let c1_i32_496 : BitVec 32 := 1#32
  let v731 : BitVec 32 := Scalar.select v730 c1_i32_496 c32_i32_494
  let v732 : BitVec 32 := Scalar.remsi v729 v731
  let c0_i32_498 : BitVec 32 := 0#32
  let v734 : BitVec 1 := Scalar.cmpi .slt v732 c0_i32_498
  let c0_i32_499 : BitVec 32 := 0#32
  let v735 : BitVec 1 := Scalar.cmpi .slt v731 c0_i32_499
  let v736 : BitVec 1 := Scalar.xori v734 v735
  let c0_i32_497 : BitVec 32 := 0#32
  let v733 : BitVec 1 := Scalar.cmpi .ne v732 c0_i32_497
  let v737 : BitVec 1 := Scalar.andi v736 v733
  let v738 : BitVec 32 := Scalar.addi v732 v731
  let v739 : BitVec 32 := Scalar.select v737 v738 v732
  let c1_i32_501 : BitVec 32 := 1#32
  let v740 : BitVec 32 := Scalar.muli v739 c1_i32_501
  let v741 : BitVec 32 := Scalar.addi c0_i32_502 v740
  v741.toNat
def k0_dev48 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_507 : BitVec 32 := 24#32
  let v750 : BitVec 32 := Scalar.addi v2 c24_i32_507
  let c32_i32_508 : BitVec 32 := 32#32
  let c0_i32_509 : BitVec 32 := 0#32
  let v751 : BitVec 1 := Scalar.cmpi .eq c32_i32_508 c0_i32_509
  let c1_i32_510 : BitVec 32 := 1#32
  let v752 : BitVec 32 := Scalar.select v751 c1_i32_510 c32_i32_508
  let v753 : BitVec 32 := Scalar.remsi v750 v752
  let c0_i32_512 : BitVec 32 := 0#32
  let v755 : BitVec 1 := Scalar.cmpi .slt v753 c0_i32_512
  let c0_i32_513 : BitVec 32 := 0#32
  let v756 : BitVec 1 := Scalar.cmpi .slt v752 c0_i32_513
  let v757 : BitVec 1 := Scalar.xori v755 v756
  let c0_i32_511 : BitVec 32 := 0#32
  let v754 : BitVec 1 := Scalar.cmpi .ne v753 c0_i32_511
  let v758 : BitVec 1 := Scalar.andi v757 v754
  let v759 : BitVec 32 := Scalar.addi v753 v752
  let v760 : BitVec 32 := Scalar.select v758 v759 v753
  let c1_i32_515 : BitVec 32 := 1#32
  let v761 : BitVec 32 := Scalar.muli v760 c1_i32_515
  let v762 : BitVec 32 := Scalar.addi c0_i32_516 v761
  v762.toNat
def k0_dev49 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_521 : BitVec 32 := 7#32
  let v771 : BitVec 32 := Scalar.addi v2 c7_i32_521
  let c32_i32_522 : BitVec 32 := 32#32
  let c0_i32_523 : BitVec 32 := 0#32
  let v772 : BitVec 1 := Scalar.cmpi .eq c32_i32_522 c0_i32_523
  let c1_i32_524 : BitVec 32 := 1#32
  let v773 : BitVec 32 := Scalar.select v772 c1_i32_524 c32_i32_522
  let v774 : BitVec 32 := Scalar.remsi v771 v773
  let c0_i32_526 : BitVec 32 := 0#32
  let v776 : BitVec 1 := Scalar.cmpi .slt v774 c0_i32_526
  let c0_i32_527 : BitVec 32 := 0#32
  let v777 : BitVec 1 := Scalar.cmpi .slt v773 c0_i32_527
  let v778 : BitVec 1 := Scalar.xori v776 v777
  let c0_i32_525 : BitVec 32 := 0#32
  let v775 : BitVec 1 := Scalar.cmpi .ne v774 c0_i32_525
  let v779 : BitVec 1 := Scalar.andi v778 v775
  let v780 : BitVec 32 := Scalar.addi v774 v773
  let v781 : BitVec 32 := Scalar.select v779 v780 v774
  let c1_i32_529 : BitVec 32 := 1#32
  let v782 : BitVec 32 := Scalar.muli v781 c1_i32_529
  let v783 : BitVec 32 := Scalar.addi c0_i32_530 v782
  v783.toNat
def k0_dev50 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_535 : BitVec 32 := 25#32
  let v792 : BitVec 32 := Scalar.addi v2 c25_i32_535
  let c32_i32_536 : BitVec 32 := 32#32
  let c0_i32_537 : BitVec 32 := 0#32
  let v793 : BitVec 1 := Scalar.cmpi .eq c32_i32_536 c0_i32_537
  let c1_i32_538 : BitVec 32 := 1#32
  let v794 : BitVec 32 := Scalar.select v793 c1_i32_538 c32_i32_536
  let v795 : BitVec 32 := Scalar.remsi v792 v794
  let c0_i32_540 : BitVec 32 := 0#32
  let v797 : BitVec 1 := Scalar.cmpi .slt v795 c0_i32_540
  let c0_i32_541 : BitVec 32 := 0#32
  let v798 : BitVec 1 := Scalar.cmpi .slt v794 c0_i32_541
  let v799 : BitVec 1 := Scalar.xori v797 v798
  let c0_i32_539 : BitVec 32 := 0#32
  let v796 : BitVec 1 := Scalar.cmpi .ne v795 c0_i32_539
  let v800 : BitVec 1 := Scalar.andi v799 v796
  let v801 : BitVec 32 := Scalar.addi v795 v794
  let v802 : BitVec 32 := Scalar.select v800 v801 v795
  let c1_i32_543 : BitVec 32 := 1#32
  let v803 : BitVec 32 := Scalar.muli v802 c1_i32_543
  let v804 : BitVec 32 := Scalar.addi c0_i32_544 v803
  v804.toNat
def k0_dev51 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_549 : BitVec 32 := 6#32
  let v813 : BitVec 32 := Scalar.addi v2 c6_i32_549
  let c32_i32_550 : BitVec 32 := 32#32
  let c0_i32_551 : BitVec 32 := 0#32
  let v814 : BitVec 1 := Scalar.cmpi .eq c32_i32_550 c0_i32_551
  let c1_i32_552 : BitVec 32 := 1#32
  let v815 : BitVec 32 := Scalar.select v814 c1_i32_552 c32_i32_550
  let v816 : BitVec 32 := Scalar.remsi v813 v815
  let c0_i32_554 : BitVec 32 := 0#32
  let v818 : BitVec 1 := Scalar.cmpi .slt v816 c0_i32_554
  let c0_i32_555 : BitVec 32 := 0#32
  let v819 : BitVec 1 := Scalar.cmpi .slt v815 c0_i32_555
  let v820 : BitVec 1 := Scalar.xori v818 v819
  let c0_i32_553 : BitVec 32 := 0#32
  let v817 : BitVec 1 := Scalar.cmpi .ne v816 c0_i32_553
  let v821 : BitVec 1 := Scalar.andi v820 v817
  let v822 : BitVec 32 := Scalar.addi v816 v815
  let v823 : BitVec 32 := Scalar.select v821 v822 v816
  let c1_i32_557 : BitVec 32 := 1#32
  let v824 : BitVec 32 := Scalar.muli v823 c1_i32_557
  let v825 : BitVec 32 := Scalar.addi c0_i32_558 v824
  v825.toNat
def k0_dev52 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_563 : BitVec 32 := 26#32
  let v834 : BitVec 32 := Scalar.addi v2 c26_i32_563
  let c32_i32_564 : BitVec 32 := 32#32
  let c0_i32_565 : BitVec 32 := 0#32
  let v835 : BitVec 1 := Scalar.cmpi .eq c32_i32_564 c0_i32_565
  let c1_i32_566 : BitVec 32 := 1#32
  let v836 : BitVec 32 := Scalar.select v835 c1_i32_566 c32_i32_564
  let v837 : BitVec 32 := Scalar.remsi v834 v836
  let c0_i32_568 : BitVec 32 := 0#32
  let v839 : BitVec 1 := Scalar.cmpi .slt v837 c0_i32_568
  let c0_i32_569 : BitVec 32 := 0#32
  let v840 : BitVec 1 := Scalar.cmpi .slt v836 c0_i32_569
  let v841 : BitVec 1 := Scalar.xori v839 v840
  let c0_i32_567 : BitVec 32 := 0#32
  let v838 : BitVec 1 := Scalar.cmpi .ne v837 c0_i32_567
  let v842 : BitVec 1 := Scalar.andi v841 v838
  let v843 : BitVec 32 := Scalar.addi v837 v836
  let v844 : BitVec 32 := Scalar.select v842 v843 v837
  let c1_i32_571 : BitVec 32 := 1#32
  let v845 : BitVec 32 := Scalar.muli v844 c1_i32_571
  let v846 : BitVec 32 := Scalar.addi c0_i32_572 v845
  v846.toNat
def k0_dev53 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_577 : BitVec 32 := 5#32
  let v855 : BitVec 32 := Scalar.addi v2 c5_i32_577
  let c32_i32_578 : BitVec 32 := 32#32
  let c0_i32_579 : BitVec 32 := 0#32
  let v856 : BitVec 1 := Scalar.cmpi .eq c32_i32_578 c0_i32_579
  let c1_i32_580 : BitVec 32 := 1#32
  let v857 : BitVec 32 := Scalar.select v856 c1_i32_580 c32_i32_578
  let v858 : BitVec 32 := Scalar.remsi v855 v857
  let c0_i32_582 : BitVec 32 := 0#32
  let v860 : BitVec 1 := Scalar.cmpi .slt v858 c0_i32_582
  let c0_i32_583 : BitVec 32 := 0#32
  let v861 : BitVec 1 := Scalar.cmpi .slt v857 c0_i32_583
  let v862 : BitVec 1 := Scalar.xori v860 v861
  let c0_i32_581 : BitVec 32 := 0#32
  let v859 : BitVec 1 := Scalar.cmpi .ne v858 c0_i32_581
  let v863 : BitVec 1 := Scalar.andi v862 v859
  let v864 : BitVec 32 := Scalar.addi v858 v857
  let v865 : BitVec 32 := Scalar.select v863 v864 v858
  let c1_i32_585 : BitVec 32 := 1#32
  let v866 : BitVec 32 := Scalar.muli v865 c1_i32_585
  let v867 : BitVec 32 := Scalar.addi c0_i32_586 v866
  v867.toNat
def k0_dev54 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_591 : BitVec 32 := 27#32
  let v876 : BitVec 32 := Scalar.addi v2 c27_i32_591
  let c32_i32_592 : BitVec 32 := 32#32
  let c0_i32_593 : BitVec 32 := 0#32
  let v877 : BitVec 1 := Scalar.cmpi .eq c32_i32_592 c0_i32_593
  let c1_i32_594 : BitVec 32 := 1#32
  let v878 : BitVec 32 := Scalar.select v877 c1_i32_594 c32_i32_592
  let v879 : BitVec 32 := Scalar.remsi v876 v878
  let c0_i32_596 : BitVec 32 := 0#32
  let v881 : BitVec 1 := Scalar.cmpi .slt v879 c0_i32_596
  let c0_i32_597 : BitVec 32 := 0#32
  let v882 : BitVec 1 := Scalar.cmpi .slt v878 c0_i32_597
  let v883 : BitVec 1 := Scalar.xori v881 v882
  let c0_i32_595 : BitVec 32 := 0#32
  let v880 : BitVec 1 := Scalar.cmpi .ne v879 c0_i32_595
  let v884 : BitVec 1 := Scalar.andi v883 v880
  let v885 : BitVec 32 := Scalar.addi v879 v878
  let v886 : BitVec 32 := Scalar.select v884 v885 v879
  let c1_i32_599 : BitVec 32 := 1#32
  let v887 : BitVec 32 := Scalar.muli v886 c1_i32_599
  let v888 : BitVec 32 := Scalar.addi c0_i32_600 v887
  v888.toNat
def k0_dev55 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_605 : BitVec 32 := 4#32
  let v897 : BitVec 32 := Scalar.addi v2 c4_i32_605
  let c32_i32_606 : BitVec 32 := 32#32
  let c0_i32_607 : BitVec 32 := 0#32
  let v898 : BitVec 1 := Scalar.cmpi .eq c32_i32_606 c0_i32_607
  let c1_i32_608 : BitVec 32 := 1#32
  let v899 : BitVec 32 := Scalar.select v898 c1_i32_608 c32_i32_606
  let v900 : BitVec 32 := Scalar.remsi v897 v899
  let c0_i32_610 : BitVec 32 := 0#32
  let v902 : BitVec 1 := Scalar.cmpi .slt v900 c0_i32_610
  let c0_i32_611 : BitVec 32 := 0#32
  let v903 : BitVec 1 := Scalar.cmpi .slt v899 c0_i32_611
  let v904 : BitVec 1 := Scalar.xori v902 v903
  let c0_i32_609 : BitVec 32 := 0#32
  let v901 : BitVec 1 := Scalar.cmpi .ne v900 c0_i32_609
  let v905 : BitVec 1 := Scalar.andi v904 v901
  let v906 : BitVec 32 := Scalar.addi v900 v899
  let v907 : BitVec 32 := Scalar.select v905 v906 v900
  let c1_i32_613 : BitVec 32 := 1#32
  let v908 : BitVec 32 := Scalar.muli v907 c1_i32_613
  let v909 : BitVec 32 := Scalar.addi c0_i32_614 v908
  v909.toNat
def k0_dev56 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_619 : BitVec 32 := 28#32
  let v918 : BitVec 32 := Scalar.addi v2 c28_i32_619
  let c32_i32_620 : BitVec 32 := 32#32
  let c0_i32_621 : BitVec 32 := 0#32
  let v919 : BitVec 1 := Scalar.cmpi .eq c32_i32_620 c0_i32_621
  let c1_i32_622 : BitVec 32 := 1#32
  let v920 : BitVec 32 := Scalar.select v919 c1_i32_622 c32_i32_620
  let v921 : BitVec 32 := Scalar.remsi v918 v920
  let c0_i32_624 : BitVec 32 := 0#32
  let v923 : BitVec 1 := Scalar.cmpi .slt v921 c0_i32_624
  let c0_i32_625 : BitVec 32 := 0#32
  let v924 : BitVec 1 := Scalar.cmpi .slt v920 c0_i32_625
  let v925 : BitVec 1 := Scalar.xori v923 v924
  let c0_i32_623 : BitVec 32 := 0#32
  let v922 : BitVec 1 := Scalar.cmpi .ne v921 c0_i32_623
  let v926 : BitVec 1 := Scalar.andi v925 v922
  let v927 : BitVec 32 := Scalar.addi v921 v920
  let v928 : BitVec 32 := Scalar.select v926 v927 v921
  let c1_i32_627 : BitVec 32 := 1#32
  let v929 : BitVec 32 := Scalar.muli v928 c1_i32_627
  let v930 : BitVec 32 := Scalar.addi c0_i32_628 v929
  v930.toNat
def k0_dev57 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_633 : BitVec 32 := 3#32
  let v939 : BitVec 32 := Scalar.addi v2 c3_i32_633
  let c32_i32_634 : BitVec 32 := 32#32
  let c0_i32_635 : BitVec 32 := 0#32
  let v940 : BitVec 1 := Scalar.cmpi .eq c32_i32_634 c0_i32_635
  let c1_i32_636 : BitVec 32 := 1#32
  let v941 : BitVec 32 := Scalar.select v940 c1_i32_636 c32_i32_634
  let v942 : BitVec 32 := Scalar.remsi v939 v941
  let c0_i32_638 : BitVec 32 := 0#32
  let v944 : BitVec 1 := Scalar.cmpi .slt v942 c0_i32_638
  let c0_i32_639 : BitVec 32 := 0#32
  let v945 : BitVec 1 := Scalar.cmpi .slt v941 c0_i32_639
  let v946 : BitVec 1 := Scalar.xori v944 v945
  let c0_i32_637 : BitVec 32 := 0#32
  let v943 : BitVec 1 := Scalar.cmpi .ne v942 c0_i32_637
  let v947 : BitVec 1 := Scalar.andi v946 v943
  let v948 : BitVec 32 := Scalar.addi v942 v941
  let v949 : BitVec 32 := Scalar.select v947 v948 v942
  let c1_i32_641 : BitVec 32 := 1#32
  let v950 : BitVec 32 := Scalar.muli v949 c1_i32_641
  let v951 : BitVec 32 := Scalar.addi c0_i32_642 v950
  v951.toNat
def k0_dev58 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_647 : BitVec 32 := 29#32
  let v960 : BitVec 32 := Scalar.addi v2 c29_i32_647
  let c32_i32_648 : BitVec 32 := 32#32
  let c0_i32_649 : BitVec 32 := 0#32
  let v961 : BitVec 1 := Scalar.cmpi .eq c32_i32_648 c0_i32_649
  let c1_i32_650 : BitVec 32 := 1#32
  let v962 : BitVec 32 := Scalar.select v961 c1_i32_650 c32_i32_648
  let v963 : BitVec 32 := Scalar.remsi v960 v962
  let c0_i32_652 : BitVec 32 := 0#32
  let v965 : BitVec 1 := Scalar.cmpi .slt v963 c0_i32_652
  let c0_i32_653 : BitVec 32 := 0#32
  let v966 : BitVec 1 := Scalar.cmpi .slt v962 c0_i32_653
  let v967 : BitVec 1 := Scalar.xori v965 v966
  let c0_i32_651 : BitVec 32 := 0#32
  let v964 : BitVec 1 := Scalar.cmpi .ne v963 c0_i32_651
  let v968 : BitVec 1 := Scalar.andi v967 v964
  let v969 : BitVec 32 := Scalar.addi v963 v962
  let v970 : BitVec 32 := Scalar.select v968 v969 v963
  let c1_i32_655 : BitVec 32 := 1#32
  let v971 : BitVec 32 := Scalar.muli v970 c1_i32_655
  let v972 : BitVec 32 := Scalar.addi c0_i32_656 v971
  v972.toNat
def k0_dev59 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_661 : BitVec 32 := 2#32
  let v981 : BitVec 32 := Scalar.addi v2 c2_i32_661
  let c32_i32_662 : BitVec 32 := 32#32
  let c0_i32_663 : BitVec 32 := 0#32
  let v982 : BitVec 1 := Scalar.cmpi .eq c32_i32_662 c0_i32_663
  let c1_i32_664 : BitVec 32 := 1#32
  let v983 : BitVec 32 := Scalar.select v982 c1_i32_664 c32_i32_662
  let v984 : BitVec 32 := Scalar.remsi v981 v983
  let c0_i32_666 : BitVec 32 := 0#32
  let v986 : BitVec 1 := Scalar.cmpi .slt v984 c0_i32_666
  let c0_i32_667 : BitVec 32 := 0#32
  let v987 : BitVec 1 := Scalar.cmpi .slt v983 c0_i32_667
  let v988 : BitVec 1 := Scalar.xori v986 v987
  let c0_i32_665 : BitVec 32 := 0#32
  let v985 : BitVec 1 := Scalar.cmpi .ne v984 c0_i32_665
  let v989 : BitVec 1 := Scalar.andi v988 v985
  let v990 : BitVec 32 := Scalar.addi v984 v983
  let v991 : BitVec 32 := Scalar.select v989 v990 v984
  let c1_i32_669 : BitVec 32 := 1#32
  let v992 : BitVec 32 := Scalar.muli v991 c1_i32_669
  let v993 : BitVec 32 := Scalar.addi c0_i32_670 v992
  v993.toNat
def k0_dev60 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_675 : BitVec 32 := 30#32
  let v1002 : BitVec 32 := Scalar.addi v2 c30_i32_675
  let c32_i32_676 : BitVec 32 := 32#32
  let c0_i32_677 : BitVec 32 := 0#32
  let v1003 : BitVec 1 := Scalar.cmpi .eq c32_i32_676 c0_i32_677
  let c1_i32_678 : BitVec 32 := 1#32
  let v1004 : BitVec 32 := Scalar.select v1003 c1_i32_678 c32_i32_676
  let v1005 : BitVec 32 := Scalar.remsi v1002 v1004
  let c0_i32_680 : BitVec 32 := 0#32
  let v1007 : BitVec 1 := Scalar.cmpi .slt v1005 c0_i32_680
  let c0_i32_681 : BitVec 32 := 0#32
  let v1008 : BitVec 1 := Scalar.cmpi .slt v1004 c0_i32_681
  let v1009 : BitVec 1 := Scalar.xori v1007 v1008
  let c0_i32_679 : BitVec 32 := 0#32
  let v1006 : BitVec 1 := Scalar.cmpi .ne v1005 c0_i32_679
  let v1010 : BitVec 1 := Scalar.andi v1009 v1006
  let v1011 : BitVec 32 := Scalar.addi v1005 v1004
  let v1012 : BitVec 32 := Scalar.select v1010 v1011 v1005
  let c1_i32_683 : BitVec 32 := 1#32
  let v1013 : BitVec 32 := Scalar.muli v1012 c1_i32_683
  let v1014 : BitVec 32 := Scalar.addi c0_i32_684 v1013
  v1014.toNat
def k0_dev61 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_689 : BitVec 32 := 1#32
  let v1023 : BitVec 32 := Scalar.addi v2 c1_i32_689
  let c32_i32_690 : BitVec 32 := 32#32
  let c0_i32_691 : BitVec 32 := 0#32
  let v1024 : BitVec 1 := Scalar.cmpi .eq c32_i32_690 c0_i32_691
  let c1_i32_692 : BitVec 32 := 1#32
  let v1025 : BitVec 32 := Scalar.select v1024 c1_i32_692 c32_i32_690
  let v1026 : BitVec 32 := Scalar.remsi v1023 v1025
  let c0_i32_694 : BitVec 32 := 0#32
  let v1028 : BitVec 1 := Scalar.cmpi .slt v1026 c0_i32_694
  let c0_i32_695 : BitVec 32 := 0#32
  let v1029 : BitVec 1 := Scalar.cmpi .slt v1025 c0_i32_695
  let v1030 : BitVec 1 := Scalar.xori v1028 v1029
  let c0_i32_693 : BitVec 32 := 0#32
  let v1027 : BitVec 1 := Scalar.cmpi .ne v1026 c0_i32_693
  let v1031 : BitVec 1 := Scalar.andi v1030 v1027
  let v1032 : BitVec 32 := Scalar.addi v1026 v1025
  let v1033 : BitVec 32 := Scalar.select v1031 v1032 v1026
  let c1_i32_697 : BitVec 32 := 1#32
  let v1034 : BitVec 32 := Scalar.muli v1033 c1_i32_697
  let v1035 : BitVec 32 := Scalar.addi c0_i32_698 v1034
  v1035.toNat
def k0_dev62 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_703 : BitVec 32 := 31#32
  let v1044 : BitVec 32 := Scalar.addi v2 c31_i32_703
  let c32_i32_704 : BitVec 32 := 32#32
  let c0_i32_705 : BitVec 32 := 0#32
  let v1045 : BitVec 1 := Scalar.cmpi .eq c32_i32_704 c0_i32_705
  let c1_i32_706 : BitVec 32 := 1#32
  let v1046 : BitVec 32 := Scalar.select v1045 c1_i32_706 c32_i32_704
  let v1047 : BitVec 32 := Scalar.remsi v1044 v1046
  let c0_i32_708 : BitVec 32 := 0#32
  let v1049 : BitVec 1 := Scalar.cmpi .slt v1047 c0_i32_708
  let c0_i32_709 : BitVec 32 := 0#32
  let v1050 : BitVec 1 := Scalar.cmpi .slt v1046 c0_i32_709
  let v1051 : BitVec 1 := Scalar.xori v1049 v1050
  let c0_i32_707 : BitVec 32 := 0#32
  let v1048 : BitVec 1 := Scalar.cmpi .ne v1047 c0_i32_707
  let v1052 : BitVec 1 := Scalar.andi v1051 v1048
  let v1053 : BitVec 32 := Scalar.addi v1047 v1046
  let v1054 : BitVec 32 := Scalar.select v1052 v1053 v1047
  let c1_i32_711 : BitVec 32 := 1#32
  let v1055 : BitVec 32 := Scalar.muli v1054 c1_i32_711
  let v1056 : BitVec 32 := Scalar.addi c0_i32_712 v1055
  v1056.toNat
def k0_off4 (d0 : Dev nD) (c1_i32_717 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1065 : BitVec 32 := Scalar.addi v2 c1_i32_717
  let c32_i32_718 : BitVec 32 := 32#32
  let c0_i32_719 : BitVec 32 := 0#32
  let v1066 : BitVec 1 := Scalar.cmpi .eq c32_i32_718 c0_i32_719
  let c1_i32_720 : BitVec 32 := 1#32
  let v1067 : BitVec 32 := Scalar.select v1066 c1_i32_720 c32_i32_718
  let v1068 : BitVec 32 := Scalar.remsi v1065 v1067
  let c0_i32_722 : BitVec 32 := 0#32
  let v1070 : BitVec 1 := Scalar.cmpi .slt v1068 c0_i32_722
  let c0_i32_723 : BitVec 32 := 0#32
  let v1071 : BitVec 1 := Scalar.cmpi .slt v1067 c0_i32_723
  let v1072 : BitVec 1 := Scalar.xori v1070 v1071
  let c0_i32_721 : BitVec 32 := 0#32
  let v1069 : BitVec 1 := Scalar.cmpi .ne v1068 c0_i32_721
  let v1073 : BitVec 1 := Scalar.andi v1072 v1069
  let v1074 : BitVec 32 := Scalar.addi v1068 v1067
  let v1075 : BitVec 32 := Scalar.select v1073 v1074 v1068
  ![v1075.toNat]
def k0_off5 (d0 : Dev nD) (c1_i32_717 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1065 : BitVec 32 := Scalar.addi v2 c1_i32_717
  let c32_i32_718 : BitVec 32 := 32#32
  let c0_i32_719 : BitVec 32 := 0#32
  let v1066 : BitVec 1 := Scalar.cmpi .eq c32_i32_718 c0_i32_719
  let c1_i32_720 : BitVec 32 := 1#32
  let v1067 : BitVec 32 := Scalar.select v1066 c1_i32_720 c32_i32_718
  let v1068 : BitVec 32 := Scalar.remsi v1065 v1067
  let c0_i32_722 : BitVec 32 := 0#32
  let v1070 : BitVec 1 := Scalar.cmpi .slt v1068 c0_i32_722
  let c0_i32_723 : BitVec 32 := 0#32
  let v1071 : BitVec 1 := Scalar.cmpi .slt v1067 c0_i32_723
  let v1072 : BitVec 1 := Scalar.xori v1070 v1071
  let c0_i32_721 : BitVec 32 := 0#32
  let v1069 : BitVec 1 := Scalar.cmpi .ne v1068 c0_i32_721
  let v1073 : BitVec 1 := Scalar.andi v1072 v1069
  let v1074 : BitVec 32 := Scalar.addi v1068 v1067
  let v1075 : BitVec 32 := Scalar.select v1073 v1074 v1068
  let c0_i32_727 : BitVec 32 := 0#32
  let c0_i32_728 : BitVec 32 := 0#32
  ![v1075.toNat, 0, 0]
abbrev stage0_0 : Fin 1 → Memref sig .tc .vmem S1x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S49152x768 : Shape := ⟨2, ![49152, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S49152x768, .bf16⟩
  | .hbm, ⟨1, _⟩ => ⟨S_, .bf16⟩
  | .hbm, ⟨2, _⟩ => ⟨S768, .bf16⟩
  | .hbm, ⟨3, _⟩ => ⟨S1x768, .bf16⟩
  | _, _ => ⟨S49152x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealFold.lean ====
/-
The printed body of the kernel, folded back into its loops.

The program text is unrolled: 31 signals, 31 remote copies, 31 waits for what the other devices send and 31 waits for
its own copies to be read. Here the body is shown to be, by unfolding alone, a short program that runs each of these
over a list. Everything after this module speaks about the short program.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.ShloMosaic.TcCoe Idealize.SL.Sem

variable {F : FTy → Type} [FloatOps F]

abbrev KProg (F : FTy → Type) : Type → Type 1 := Prog (TpuEff nD τ sig (Elt F) Λ₀ .tc)

/-- Run `f` on every member of a list, in order. -/
def each {ι : Type} (f : ι → KProg F PUnit) : List ι → KProg F PUnit
  | [] => pure ⟨⟩
  | x :: xs => f x >>= fun _ => each f xs

section
variable (arg0 : Memref sig .tc .hbm S1536x768 .bf16) (harg0 : arg0.IsWhole) (arg1 : Memref sig .tc .vmem S1x768 .bf16) (harg1 : arg1.IsWhole)
  (arg2 : Memref sig .tc .vmem S1536x768 .bf16) (harg2 : arg2.IsWhole) (arg3 : Memref sig .tc .vmem S32x1x768 .bf16) (harg3 : arg3.IsWhole)
  (arg4 : DmaSems sig S32) (arg5 : DmaSems sig S32) (arg6 : DmaSems sig S_)

/-- One member of an array of 32 semaphores. -/
theorem inb_one (d : Fin 32) : ∀ a, (![d.val] : Fin 1 → ℕ) a + S1.size a ≤ S32.size a := by
  intro a; fin_cases a; have := d.isLt; simp [S1, S32, Shape.size]; omega

def semAt (A : DmaSems sig S32) (d : Fin 32) : DmaSems sig S_ :=
  (A.slice (Rect.unit (s := S32) ![d.val] S1.size (inb_one d))).squeeze S_ squeezes_S1_S_

/-- The row of the communication buffer a device keeps for its own part. -/
def ownRow (d0 : Dev nD) : Memref sig .tc .vmem S1x768 .bf16 :=
  (arg3.slice (Rect.unit (s := S32x1x768) (k0_off3 d0) S1x1x768.size (k0_off3_inb d0)) (fun _ => rfl)).squeeze S1x768 squeezes_S1x1x768_S1x768

/-- The row the device `r + 1` places further writes. -/
def farRow (d0 : Dev nD) (r : Fin 31) : Memref sig .tc .vmem S1x768 .bf16 :=
  (arg3.slice (Rect.unit (s := S32x1x768) (k0_off5 d0 (BitVec.ofNat 32 (1 + r.val))) S1x1x768.size (k0_off5_inb d0 r)) (fun _ => rfl)).squeeze S1x768 squeezes_S1x1x768_S1x768

def ownSem (A : DmaSems sig S32) (d0 : Dev nD) : DmaSems sig S_ :=
  (A.slice (Rect.unit (s := S32) (k0_off2 d0) S1.size (k0_off2_inb d0))).squeeze S_ squeezes_S1_S_

def farSem (A : DmaSems sig S32) (d0 : Dev nD) (r : Fin 31) : DmaSems sig S_ :=
  (A.slice (Rect.unit (s := S32) (k0_off4 d0 (BitVec.ofNat 32 (1 + r.val))) S1.size (k0_off4_inb d0 r))).squeeze S_ squeezes_S1_S_

def bar : Sem sig := (SemArray.scalar (sig.barrier 0 rfl) : Sems sig S_).sem

def signalTo (n : Dev nD) : KProg F PUnit := semSignalWord n bar 1#32

def sendTo (d0 : Dev nD) (nd : Dev nD × Fin 32) : KProg F PUnit :=
  Prog.lift (.enqueueDma (ownRow arg3 d0) (.remote (Dev.tc nd.1) (ownRow arg3 d0) (.dma (semAt arg4 nd.2).sem)) (.dma (ownSem arg5 d0).sem)
    ((harg3.wordExact_slice rfl _ (k0_off3_wordsbf16 d0)).reshape _ _) ((harg3.wordExact_slice rfl _ (k0_off3_wordsbf16 d0)).reshape _ _) ⟨⟨rfl, Or.inl rfl⟩, trivial⟩)

def recvFrom (d0 : Dev nD) (r : Fin 31) : KProg F PUnit :=
  Prog.lift (.waitDma2 (farSem arg5 d0 r).sem (farRow arg3 d0 r) (farRow arg3 d0 r)
    ((harg3.wordExact_slice rfl _ (k0_off5_wordsbf16 d0 r)).reshape _ _) ((harg3.wordExact_slice rfl _ (k0_off5_wordsbf16 d0 r)).reshape _ _))

def sentTo (d0 : Dev nD) (d : Fin 32) : KProg F PUnit :=
  Prog.lift (.waitDma2 (semAt arg4 d).sem (ownRow arg3 d0) (ownRow arg3 d0)
    ((harg3.wordExact_slice rfl _ (k0_off3_wordsbf16 d0)).reshape _ _) ((harg3.wordExact_slice rfl _ (k0_off3_wordsbf16 d0)).reshape _ _))

/-- Whom a device signals, in program order. -/
def sigList (d0 : Dev nD) : List (Dev nD) :=
  [⟨k0_dev1 d0, k0_dev1_lt d0⟩, ⟨k0_dev2 d0, k0_dev2_lt d0⟩, ⟨k0_dev3 d0, k0_dev3_lt d0⟩, ⟨k0_dev4 d0, k0_dev4_lt d0⟩, ⟨k0_dev5 d0, k0_dev5_lt d0⟩,
    ⟨k0_dev6 d0, k0_dev6_lt d0⟩, ⟨k0_dev7 d0, k0_dev7_lt d0⟩, ⟨k0_dev8 d0, k0_dev8_lt d0⟩, ⟨k0_dev9 d0, k0_dev9_lt d0⟩, ⟨k0_dev10 d0, k0_dev10_lt d0⟩,
    ⟨k0_dev11 d0, k0_dev11_lt d0⟩, ⟨k0_dev12 d0, k0_dev12_lt d0⟩, ⟨k0_dev13 d0, k0_dev13_lt d0⟩, ⟨k0_dev14 d0, k0_dev14_lt d0⟩,
    ⟨k0_dev15 d0, k0_dev15_lt d0⟩, ⟨k0_dev16 d0, k0_dev16_lt d0⟩, ⟨k0_dev17 d0, k0_dev17_lt d0⟩, ⟨k0_dev18 d0, k0_dev18_lt d0⟩,
    ⟨k0_dev19 d0, k0_dev19_lt d0⟩, ⟨k0_dev20 d0, k0_dev20_lt d0⟩, ⟨k0_dev21 d0, k0_dev21_lt d0⟩, ⟨k0_dev22 d0, k0_dev22_lt d0⟩,
    ⟨k0_dev23 d0, k0_dev23_lt d0⟩, ⟨k0_dev24 d0, k0_dev24_lt d0⟩, ⟨k0_dev25 d0, k0_dev25_lt d0⟩, ⟨k0_dev26 d0, k0_dev26_lt d0⟩,
    ⟨k0_dev27 d0, k0_dev27_lt d0⟩, ⟨k0_dev28 d0, k0_dev28_lt d0⟩, ⟨k0_dev29 d0, k0_dev29_lt d0⟩, ⟨k0_dev30 d0, k0_dev30_lt d0⟩,
    ⟨k0_dev31 d0, k0_dev31_lt d0⟩]

/-- Whom a device sends to and on which of its send semaphores, in program order. -/
def sendList (d0 : Dev nD) : List (Dev nD × Fin 32) :=
  [(⟨k0_dev32 d0, k0_dev32_lt d0⟩, 16), (⟨k0_dev33 d0, k0_dev33_lt d0⟩, 15), (⟨k0_dev34 d0, k0_dev34_lt d0⟩, 17), (⟨k0_dev35 d0, k0_dev35_lt d0⟩, 14),
    (⟨k0_dev36 d0, k0_dev36_lt d0⟩, 18), (⟨k0_dev37 d0, k0_dev37_lt d0⟩, 13), (⟨k0_dev38 d0, k0_dev38_lt d0⟩, 19), (⟨k0_dev39 d0, k0_dev39_lt d0⟩, 12),
    (⟨k0_dev40 d0, k0_dev40_lt d0⟩, 20), (⟨k0_dev41 d0, k0_dev41_lt d0⟩, 11), (⟨k0_dev42 d0, k0_dev42_lt d0⟩, 21), (⟨k0_dev43 d0, k0_dev43_lt d0⟩, 10),
    (⟨k0_dev44 d0, k0_dev44_lt d0⟩, 22), (⟨k0_dev45 d0, k0_dev45_lt d0⟩, 9), (⟨k0_dev46 d0, k0_dev46_lt d0⟩, 23), (⟨k0_dev47 d0, k0_dev47_lt d0⟩, 8),
    (⟨k0_dev48 d0, k0_dev48_lt d0⟩, 24), (⟨k0_dev49 d0, k0_dev49_lt d0⟩, 7), (⟨k0_dev50 d0, k0_dev50_lt d0⟩, 25), (⟨k0_dev51 d0, k0_dev51_lt d0⟩, 6),
    (⟨k0_dev52 d0, k0_dev52_lt d0⟩, 26), (⟨k0_dev53 d0, k0_dev53_lt d0⟩, 5), (⟨k0_dev54 d0, k0_dev54_lt d0⟩, 27), (⟨k0_dev55 d0, k0_dev55_lt d0⟩, 4),
    (⟨k0_dev56 d0, k0_dev56_lt d0⟩, 28), (⟨k0_dev57 d0, k0_dev57_lt d0⟩, 3), (⟨k0_dev58 d0, k0_dev58_lt d0⟩, 29), (⟨k0_dev59 d0, k0_dev59_lt d0⟩, 2),
    (⟨k0_dev60 d0, k0_dev60_lt d0⟩, 30), (⟨k0_dev61 d0, k0_dev61_lt d0⟩, 1), (⟨k0_dev62 d0, k0_dev62_lt d0⟩, 31)]

/-- The send semaphores in the order in which they are waited for. -/
def sentList : List (Fin 32) := [16, 15, 17, 14, 18, 13, 19, 12, 20, 11, 21, 10, 22, 9, 23, 8, 24, 7, 25, 6, 26, 5, 27, 4, 28, 3, 29, 2, 30, 1, 31]

/-- How far away, less one, the devices are whose rows are waited for, in program order. -/
def recvList : List (Fin 31) := [0, 30, 1, 29, 2, 28, 3, 27, 4, 26, 5, 25, 6, 24, 7, 23, 8, 22, 9, 21, 10, 20, 11, 19, 12, 18, 13, 17, 14, 16, 15]

/-- The body, folded. -/
def body : KProg F PUnit := do
  let d0 : Dev nD ← Prog.lift .deviceId
  Prog.lift (.enqueueDma arg0 (.here arg2) (.dma arg6.sem) harg0.wordExact harg2.wordExact ⟨Or.inl rfl, trivial⟩)
  each signalTo (sigList d0)
  Prog.lift (.waitDma2 arg6.sem arg0 arg2 harg0.wordExact harg2.wordExact)
  let x : Vec F S1536x768 .bf16 ← Prog.lift (.load arg2 (Rect.unit (s := S1536x768) ![0, 0] S1536x768.size inb_S1536x768_S1536x768_0_0).toLoadRect (View.loadsAt_vmem h_S1536x768))
  let _old : Vec F S1x1x768 .bf16 ← Prog.lift (.load arg3 (Rect.unit (s := S32x1x768) (k0_off1 d0) S1x1x768.size (k0_off1_inb d0)).toLoadRect (View.loadsAt_vmem h_S1x1x768))
  Prog.lift (.store arg3 (Rect.unit (s := S32x1x768) (k0_off1 d0) S1x1x768.size (k0_off1_inb d0)) (k0_pay1 x) Finset.univ (View.stores_vmem h_S1x1x768 (harg3.storeExact_slice rfl _ (k0_off1_packedbf16 d0)) (fun _ => rfl)) (.inl rfl))
  semWaitWord bar 31#32
  each (sendTo arg3 harg3 arg4 arg5 d0) (sendList d0)
  each (recvFrom arg3 harg3 arg5 d0) recvList
  let y : Vec F S32x1x768 .bf16 ← Prog.lift (.load arg3 (Rect.unit (s := S32x1x768) ![0, 0, 0] S32x1x768.size inb_S32x1x768_S32x1x768_0_0_0).toLoadRect (View.loadsAt_vmem h_S32x1x768))
  let _old : Vec F S1x768 .bf16 ← Prog.lift (.load arg1 (Rect.unit (s := S1x768) ![0, 0] S1x768.size inb_S1x768_S1x768_0_0).toLoadRect (View.loadsAt_vmem h_S1x768))
  Prog.lift (.store arg1 (Rect.unit (s := S1x768) ![0, 0] S1x768.size inb_S1x768_S1x768_0_0) (k0_pay2 y) Finset.univ (View.stores_vmem h_S1x768 (harg1.storeExact_slice rfl _ packedbf16_S1x768_S1x768_0_0) (fun _ => rfl)) (.inl rfl))
  each (sentTo arg3 harg3 arg4 d0) sentList

set_option maxRecDepth 65536 in
set_option maxHeartbeats 0 in
/-- The printed body is the folded one, by unfolding. -/
theorem body_eq : cc0_body (F := F) arg0 harg0 arg1 harg1 arg2 harg2 arg3 harg3 arg4 arg5 arg6
    = body arg0 harg0 arg1 harg1 arg2 harg2 arg3 harg3 arg4 arg5 arg6 := rfl

end

end Cert.KernelIdealProof

end
-- ==== Proof.KernelIdealRows.lean ====
/-
Closed forms of what the folded body names: the devices it signals and sends to, the semaphores it uses, the rows of
the communication buffer it reads and writes, and how that buffer is cut into rows.
-/
module

public import proofs.«01_k».proof.Proof.KernelIdealFold
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-! ## Devices -/

/-- The distances at which a device signals, in program order. -/
def offs : List (Fin 32) := [1, 2, 3, 4, 5, 6, 7, 8, 9, 10, 11, 12, 13, 14, 15, 16, 17, 18, 19, 20, 21, 22, 23, 24, 25, 26, 27, 28, 29, 30, 31]

/-- The distances of the devices whose rows are waited for, in program order. -/
def froms : List (Fin 32) := [1, 31, 2, 30, 3, 29, 4, 28, 5, 27, 6, 26, 7, 25, 8, 24, 9, 23, 10, 22, 11, 21, 12, 20, 13, 19, 14, 18, 15, 17, 16]

set_option maxRecDepth 8192 in
theorem sigList_eq (c : Dev nD) : sigList c = offs.map (fun d => c + d) := by revert c; decide +kernel

set_option maxRecDepth 8192 in
theorem sendList_eq (c : Dev nD) : sendList c = sentList.map (fun d => (c + d, d)) := by revert c; decide +kernel

theorem froms_eq : froms = recvList.map Fin.succ := by decide

theorem offs_nodup : offs.Nodup := by decide
theorem sent_nodup : sentList.Nodup := by decide
theorem froms_nodup : froms.Nodup := by decide
theorem offs_set : offs.toFinset = Finset.univ.erase 0 := by decide
theorem sent_set : sentList.toFinset = Finset.univ.erase 0 := by decide
theorem froms_set : froms.toFinset = Finset.univ.erase 0 := by decide

/-! ## Semaphores -/

def sS (d : Fin 32) : DmaSem sig := ⟨1 + d.val, by have := d.isLt; show 1 + d.val < 66; omega⟩
def sR (d : Fin 32) : DmaSem sig := ⟨33 + d.val, by have := d.isLt; show 33 + d.val < 66; omega⟩
def sL : DmaSem sig := ⟨65, by decide⟩

theorem semAt_eq (d : Fin 32) : (semAt cc0_scratch2 d).sem = sS d := by revert d; decide +kernel
theorem ownSem_eq (c : Dev nD) : (ownSem cc0_scratch3 c).sem = sR c := by revert c; decide +kernel
theorem farSem_eq (c : Dev nD) (r : Fin 31) : (farSem cc0_scratch3 c r).sem = sR (c + r.succ) := by revert c r; decide +kernel
theorem load_eq : (cc0_scratch4 : DmaSems sig S_).sem = sL := by decide +kernel

/-! ## Rows of the communication buffer -/

abbrev commM : Memref sig .tc .vmem S32x1x768 .bf16 := Memref.whole cc0_scratch1
abbrev xvM : Memref sig .tc .vmem S1536x768 .bf16 := Memref.whole cc0_scratch0
abbrev argM : Memref sig .tc .hbm S1536x768 .bf16 := Memref.whole main_arg0
abbrev outM : Memref sig .tc .vmem S1x768 .bf16 := Memref.whole cc0_stg0_0

theorem row_inb (s : Fin 32) : ∀ a, (![s.val, 0, 0] : Fin 3 → ℕ) a + S1x1x768.size a ≤ S32x1x768.size a := by
  intro a; have := s.isLt; fin_cases a <;> simp [S1x1x768, S32x1x768, Shape.size] <;> omega

abbrev rowRect (s : Fin 32) : Rect S32x1x768 := Rect.unit (s := S32x1x768) ![s.val, 0, 0] S1x1x768.size (row_inb s)

/-- Row `s` of the communication buffer, as the copies name it. -/
abbrev row (s : Fin 32) : Memref sig .tc .vmem S1x768 .bf16 :=
  (commM.slice (Rect.unit (s := S32x1x768) ![s.val, 0, 0] S1x1x768.size (row_inb s)) (fun _ => rfl)).squeeze S1x768 squeezes_S1x1x768_S1x768

theorem off1_eq (c : Dev nD) : k0_off1 c = ![c.val, 0, 0] := by revert c; decide +kernel
theorem off3_eq (c : Dev nD) : k0_off3 c = ![c.val, 0, 0] := by revert c; decide +kernel
theorem off5_eq (c : Dev nD) (r : Fin 31) : k0_off5 c (BitVec.ofNat 32 (1 + r.val)) = ![(c + r.succ : Fin 32).val, 0, 0] := by
  revert c r; decide +kernel

theorem ownRow_eq (c : Dev nD) : ownRow commM c = row c := by
  unfold ownRow
  exact congrArg (fun M : Memref sig .tc .vmem S1x1x768 .bf16 => M.squeeze S1x768 squeezes_S1x1x768_S1x768) (Memref.slice_unit_eq_of_eq commM (k0_off3_inb c) (fun _ => rfl) (off3_eq c))

theorem farRow_eq (c : Dev nD) (r : Fin 31) : farRow commM c r = row (c + r.succ) := by
  unfold farRow
  exact congrArg (fun M : Memref sig .tc .vmem S1x1x768 .bf16 => M.squeeze S1x768 squeezes_S1x1x768_S1x768) (Memref.slice_unit_eq_of_eq commM (k0_off5_inb c r) (fun _ => rfl) (off5_eq c r))

theorem rect1_eq (c : Dev nD) : Rect.unit (s := S32x1x768) (k0_off1 c) S1x1x768.size (k0_off1_inb c) = rowRect c :=
  Rect.unit_eq_of_eq (k0_off1_inb c) (off1_eq c)

theorem row_set (s : Fin 32) : (row s).view.set = (rowRect s).set := by
  exact (View.set_reshape _ _).trans (View.set_slice_whole _ _)

theorem mem_row (s : Fin 32) (i : S32x1x768.Idx) : i ∈ (rowRect s).set ↔ i 0 = s := by
  unfold rowRect
  rw [Rect.mem_set_unit]
  constructor
  · intro h
    have h0 := h 0
    simp [S1x1x768, Shape.size] at h0
    exact Fin.ext (by omega)
  · rintro rfl a
    have := (i a).isLt
    fin_cases a
    · simp [S1x1x768, Shape.size]
    · simp [S1x1x768, S32x1x768, Shape.size] at this ⊢; omega
    · simp [S1x1x768, S32x1x768, Shape.size] at this ⊢; omega

/-- The positions of row `s`. -/
abbrev rowSet (s : Fin 32) : Finset S32x1x768.Idx := (row s).view.set

theorem mem_rowSet (s : Fin 32) (i : S32x1x768.Idx) : i ∈ rowSet s ↔ i 0 = s :=
  (Finset.ext_iff.mp (row_set s) i).trans (mem_row s i)

theorem rows_disjoint (s t : Fin 32) (h : s ≠ t) : Disjoint (rowSet s) (rowSet t) := by
  rw [Finset.disjoint_left]
  exact fun i hs ht => h (((mem_rowSet s i).mp hs).symm.trans ((mem_rowSet t i).mp ht))

theorem rows_cover : (Finset.univ : Finset (Fin 32)).biUnion rowSet = Finset.univ := by
  ext i
  simp only [Finset.mem_biUnion, Finset.mem_univ, true_and, iff_true]
  exact ⟨(i 0 : Fin 32), (mem_rowSet (i 0 : Fin 32) i).mpr rfl⟩

/-- What one row credits, and what the copied input does. -/
@[irreducible] def N : ℕ := (row 0).view.dmaCredit
theorem N_pos : 0 < N := by unfold N; exact View.dmaCredit_pos _ (by decide)
theorem row_amount (s : Fin 32) (q : DmaSem sig) : (row s).view.amount (.dma q) = N := by unfold N; rfl
@[irreducible] def NL : ℕ := xvM.view.dmaCredit
theorem NL_pos : 0 < NL := by unfold NL; exact View.dmaCredit_pos _ (by decide)
theorem xv_amount (q : DmaSem sig) : xvM.view.amount (.dma q) = NL := by unfold NL; rfl

/-- A row copied onto the same row of another buffer: on that row, the contents copied from. -/
theorem row_copied (s : Fin 32) (fd fs : (cc0_scratch1 : Ref sig .tc).ty.Contents (Elt F)) :
    ∀ i ∈ (row s).view.set, (row s).view.write (Elt F) fd ((row s).view.read (Elt F) fs) Finset.univ i = fs i := by
  intro i hi
  obtain ⟨x, -, rfl⟩ := Finset.mem_map.mp hi
  rw [View.write_emb_of_mem (h := Finset.mem_univ x), View.read_apply]
  simp

end Cert.KernelIdealProof

end
-- ==== Proof.KernelIdealSched.lean ====
/-
The protocol of the exchange: what each semaphore's one round is paid by and what it hands over.

A device's barrier cell is paid one unit by every other device; the payment hands over the row of the payer's
communication buffer that the owner of the cell is to write. A receive cell is paid by the one device that writes the
row it guards, and hands over that row written. A send cell hands back the part of the device's own row lent to the
copy. The load cell hands over the copied input.
-/
module

public import proofs.«01_k».proof.Proof.KernelIdealRows

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own and one for the exchange, whose payers are devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Contents -/

/-- Device `c`'s part of the argument. -/
def xIn (c : Dev nD) : (main_arg0 : Ref sig .tc).ty.Contents (Elt F) := m ((c : Thread nD τ).loc main_arg0)

/-- A position of one row of the communication buffer, by its column. -/
def colIx (j : Fin 768) : S1x1x768.Idx := fun a => match a with
  | ⟨0, _⟩ => (0 : Fin 1)
  | ⟨1, _⟩ => (0 : Fin 1)
  | ⟨2, _⟩ => j

/-- The communication buffer when every row has arrived: row `s` is the maximum of device `s`'s part. The same on
    every device. -/
def commC : (cc0_scratch1 : Ref sig .tc).ty.Contents (Elt F) := fun i => k0_pay1 (xIn m (i 0 : Fin 32)) (colIx (i 2 : Fin 768))

theorem commC_emb (s : Fin 32) (j : S1x1x768.Idx) : commC m ((rowRect s).emb j) = k0_pay1 (xIn m s) j := by
  unfold commC
  have h0 : ((rowRect s).emb j 0 : Fin 32) = s := (mem_row s _).mp (by
    rw [← Rect.map_emb_univ]; exact Finset.mem_map_of_mem _ (Finset.mem_univ j))
  have hj : colIx ((rowRect s).emb j 2 : Fin 768) = j := by
    funext a
    fin_cases a
    · exact Subsingleton.elim (α := Fin 1) _ _
    · exact Subsingleton.elim (α := Fin 1) _ _
    · refine Fin.ext ?_
      show ((rowRect s).emb j 2).val = (j 2).val
      show ![s.val, 0, 0] 2 + 1 * (j 2).val = (j 2).val
      simp
  rw [hj]
  exact congrArg (fun t => k0_pay1 (xIn m t) j) h0

/-! ## Cells -/

abbrev barCell (c : Dev nD) : GSem nD τ sig := ((c : Thread nD τ), .reg bar)
abbrev dCell (c : Dev nD) (q : DmaSem sig) : GSem nD τ sig := ((c : Thread nD τ), .dma q)

/-- What a semaphore is for. -/
inductive Role : Type
  | bar | send (d : Fin 32) | recv (s : Fin 32) | load | other
deriving DecidableEq

def role : SemLoc sig → Role
  | .reg s => if s = bar then .bar else .other
  | .dma q =>
    if q.val = 0 then .other
    else if q.val < 33 then .send ⟨(q.val - 1) % 32, Nat.mod_lt _ (by decide)⟩
    else if q.val < 65 then .recv ⟨(q.val - 33) % 32, Nat.mod_lt _ (by decide)⟩
    else .load

theorem role_bar : role (.reg bar) = .bar := by decide +kernel
theorem role_send (d : Fin 32) : role (.dma (sS d)) = .send d := by revert d; decide +kernel
theorem role_recv (s : Fin 32) : role (.dma (sR s)) = .recv s := by revert s; decide +kernel
theorem role_load : role (.dma sL) = .load := by decide +kernel

/-! ## What is handed over -/

/-- Row `s` of device `c`'s communication buffer. -/
abbrev rowPts (c : Dev nD) (s : Fin 32) (q : PosShare TreeShare) (f : (cc0_scratch1 : Ref sig .tc).ty.Contents (Elt F)) : sProp 𝕄 :=
  (row s).view.loc (c : Thread nD τ) ↦[(row s).view.set]{q} f

abbrev someRow (c : Dev nD) (s : Fin 32) : sProp 𝕄 :=
  iprop(∃ f : (cc0_scratch1 : Ref sig .tc).ty.Contents (Elt F), rowPts c s fullShare f)

/-- The part of a device's own row lent to the copy on send semaphore `d`. -/
abbrev lent (d : Fin 32) : PosShare TreeShare := Transfers.shareTokN fullShare d.val

abbrev argPts (c : Dev nD) : sProp 𝕄 :=
  argM.view.loc (c : Thread nD τ) ↦[argM.view.set]{fullShare} xIn m c
abbrev xvPts (c : Dev nD) (f : (cc0_scratch0 : Ref sig .tc).ty.Contents (Elt F)) : sProp 𝕄 :=
  xvM.view.loc (c : Thread nD τ) ↦[xvM.view.set]{fullShare} f

def rolePayers (c : Dev nD) : Role → Finset (Dev nD)
  | .bar => Finset.univ.erase c
  | .send d => if d = 0 then ∅ else {0}
  | .recv s => if s = c then ∅ else {0}
  | .load => {0}
  | .other => ∅

def roleAmount : Role → ℕ
  | .bar => 1
  | .load => NL
  | _ => N

def rolePay (c p : Dev nD) : Role → sProp 𝕄
  | .bar => someRow p c
  | .send d => rowPts c c (lent d) (commC m)
  | .recv s => rowPts c s fullShare (commC m)
  | .load => iprop(xvPts c (xIn m c) ∗ argPts m c)
  | .other => iprop(emp)

def Rd : Rounds.Schedule (GSem nD τ sig) (Dev nD) 𝕄 where
  duties g r := if r = 0 ∧ g.1.2 = .tc then rolePayers g.1.1 (role g.2) else ∅
  unitless _ := False
  amount g _ _ := roleAmount (role g.2)
  payload g _ p := rolePay m g.1.1 p (role g.2)
  amount_pos g _ _ _ := by
    cases role g.2 <;> first | exact Nat.one_pos | exact N_pos | exact NL_pos

instance Rd_payload_storable (g : GSem nD τ sig) (r : ℕ) (d : Dev nD) :
    BI.Storable (upEmb : UEmb _ 𝕄) ((Rd (F := F) m).payload g r d) := by
  show BI.Storable upEmb (rolePay m g.1.1 d (role g.2))
  cases role g.2 <;> (dsimp only [rolePay]; infer_instance)

section Sched
variable (c : Dev nD)

theorem duties_of (q : SemLoc sig) : (Rd (F := F) m).duties ((c : Thread nD τ), q) 0 = rolePayers c (role q) := by
  dsimp only [Rd]; exact if_pos ⟨rfl, rfl⟩
theorem duties_later (g : GSem nD τ sig) : ∀ r, 1 ≤ r → (Rd (F := F) m).duties g r = ∅ := fun r hr => by
  dsimp only [Rd]; exact if_neg fun h => by omega

theorem duties_bar : (Rd (F := F) m).duties (barCell c) 0 = Finset.univ.erase c := by rw [duties_of, role_bar]; rfl
theorem duties_send (d : Fin 32) (h : d ≠ 0) : (Rd (F := F) m).duties (dCell c (sS d)) 0 = {0} := by
  rw [duties_of, role_send]; exact if_neg h
theorem duties_recv (s : Fin 32) (h : s ≠ c) : (Rd (F := F) m).duties (dCell c (sR s)) 0 = {0} := by
  rw [duties_of, role_recv]; exact if_neg h
theorem duties_load : (Rd (F := F) m).duties (dCell c sL) 0 = {0} := by rw [duties_of, role_load]; rfl
theorem duties_send_self (r : ℕ) : (Rd (F := F) m).duties (dCell c (sS 0)) r = ∅ := by
  rcases Nat.eq_zero_or_pos r with rfl | h
  · rw [duties_of, role_send]; rfl
  · exact duties_later m _ r h
theorem duties_recv_self (r : ℕ) : (Rd (F := F) m).duties (dCell c (sR c)) r = ∅ := by
  rcases Nat.eq_zero_or_pos r with rfl | h
  · rw [duties_of, role_recv]; exact if_pos rfl
  · exact duties_later m _ r h

theorem amount_bar (p : Dev nD) : (Rd (F := F) m).amount (barCell c) 0 p = 1 := by show roleAmount (role (.reg bar)) = 1; rw [role_bar]; rfl
theorem amount_send (d : Fin 32) (p : Dev nD) : (Rd (F := F) m).amount (dCell c (sS d)) 0 p = N := by
  show roleAmount (role (.dma (sS d))) = N; rw [role_send]; rfl
theorem amount_recv (s : Fin 32) (p : Dev nD) : (Rd (F := F) m).amount (dCell c (sR s)) 0 p = N := by
  show roleAmount (role (.dma (sR s))) = N; rw [role_recv]; rfl
theorem amount_load (p : Dev nD) : (Rd (F := F) m).amount (dCell c sL) 0 p = NL := by
  show roleAmount (role (.dma sL)) = NL; rw [role_load]; rfl

theorem expect_bar : (Rd (F := F) m).expect (barCell c) 0 = 31 := by
  unfold Schedule.expect Schedule.amountOf
  rw [duties_bar, Finset.sum_congr rfl fun p _ => amount_bar m c p, Finset.sum_const, Finset.card_erase_of_mem (Finset.mem_univ _),
    Finset.card_univ, Fintype.card_fin, smul_eq_mul]
  rfl
/-- A round with one payer expects that payer's amount, and the rest of it, nothing taken, is that payer's. -/
theorem expect_one (g : GSem nD τ sig) (p : Dev nD) (h : (Rd (F := F) m).duties g 0 = {p}) :
    (Rd (F := F) m).expect g 0 = (Rd (F := F) m).amount g 0 p := by
  unfold Schedule.expect Schedule.amountOf; rw [h, Finset.sum_singleton]
theorem rest_one (g : GSem nD τ sig) (p : Dev nD) (h : (Rd (F := F) m).duties g 0 = {p}) :
    bigSep ((Rd (F := F) m).duties g 0 \ ∅) (fun p => (Rd (F := F) m).payload g 0 p) = (Rd (F := F) m).payload g 0 p := by
  rw [Finset.sdiff_empty, h, bigSep_singleton]
theorem expect_send (d : Fin 32) (h : d ≠ 0) : (Rd (F := F) m).expect (dCell c (sS d)) 0 = N :=
  (expect_one m _ _ (duties_send m c d h)).trans (amount_send m c d 0)
theorem expect_recv (s : Fin 32) (h : s ≠ c) : (Rd (F := F) m).expect (dCell c (sR s)) 0 = N :=
  (expect_one m _ _ (duties_recv m c s h)).trans (amount_recv m c s 0)
theorem expect_load : (Rd (F := F) m).expect (dCell c sL) 0 = NL :=
  (expect_one m _ _ (duties_load m c)).trans (amount_load m c 0)

theorem payload_bar (p : Dev nD) : (Rd (F := F) m).payload (barCell c) 0 p = someRow p c := by
  show rolePay m c p (role (.reg bar)) = _; rw [role_bar]; rfl
theorem payload_send (d : Fin 32) (p : Dev nD) : (Rd (F := F) m).payload (dCell c (sS d)) 0 p = rowPts c c (lent d) (commC m) := by
  show rolePay m c p (role (.dma (sS d))) = _; rw [role_send]; rfl
theorem payload_recv (s : Fin 32) (p : Dev nD) : (Rd (F := F) m).payload (dCell c (sR s)) 0 p = rowPts c s fullShare (commC m) := by
  show rolePay m c p (role (.dma (sR s))) = _; rw [role_recv]; rfl
theorem payload_load (p : Dev nD) : (Rd (F := F) m).payload (dCell c sL) 0 p = iprop(xvPts c (xIn m c) ∗ argPts m c) := by
  show rolePay m c p (role (.dma sL)) = _; rw [role_load]; rfl

theorem rest_bar : bigSep ((Rd (F := F) m).duties (barCell c) 0 \ ∅) (fun p => (Rd (F := F) m).payload (barCell c) 0 p)
    = bigSep (Finset.univ.erase c) (fun p => someRow p c) := by
  rw [Finset.sdiff_empty, duties_bar]; exact bigSep_congr fun p _ => payload_bar m c p
theorem rest_send (d : Fin 32) (h : d ≠ 0) : bigSep ((Rd (F := F) m).duties (dCell c (sS d)) 0 \ ∅) (fun p => (Rd (F := F) m).payload (dCell c (sS d)) 0 p)
    = rowPts c c (lent d) (commC m) := (rest_one m _ _ (duties_send m c d h)).trans (payload_send m c d 0)
theorem rest_recv (s : Fin 32) (h : s ≠ c) : bigSep ((Rd (F := F) m).duties (dCell c (sR s)) 0 \ ∅) (fun p => (Rd (F := F) m).payload (dCell c (sR s)) 0 p)
    = rowPts c s fullShare (commC m) := (rest_one m _ _ (duties_recv m c s h)).trans (payload_recv m c s 0)
theorem rest_load : bigSep ((Rd (F := F) m).duties (dCell c sL) 0 \ ∅) (fun p => (Rd (F := F) m).payload (dCell c sL) 0 p)
    = iprop(xvPts c (xIn m c) ∗ argPts m c) := (rest_one m _ _ (duties_load m c)).trans (payload_load m c 0)

end Sched

/-! ## What each device owes at launch; the levels -/

/-- What device `c` still owes for the signals at the distances `l`; -/
def owedSig (c : Dev nD) (l : List (Fin 32)) : CellTallies nD τ sig Unit := (l.map fun d => tallyAt (barCell (c + d)) () 1).sum
/-- and for the copies at the distances `l`. -/
def owedSend (c : Dev nD) (l : List (Fin 32)) : CellTallies nD τ sig Unit := (l.map fun d => tallyAt (dCell (c + d) (sR c)) () N).sum

def O₀ (c : Dev nD) : CellTallies nD τ sig Unit := owedSend c sentList + owedSig c offs

theorem owedSig_cons (c : Dev nD) (d : Fin 32) (l : List (Fin 32)) : owedSig c (d :: l) = owedSig c l + tallyAt (barCell (c + d)) () 1 := by
  unfold owedSig; rw [List.map_cons, List.sum_cons, add_comm]
theorem owedSend_cons (c : Dev nD) (d : Fin 32) (l : List (Fin 32)) :
    owedSend c (d :: l) = owedSend c l + tallyAt (dCell (c + d) (sR c)) () N := by
  unfold owedSend; rw [List.map_cons, List.sum_cons, add_comm]

def L (g : GSem nD τ sig) : Finset Unit := if g.1.2 = .tc then {()} else ∅
def roleLevel : Role → ℕ
  | .bar => 1
  | .recv _ => 2
  | _ => 0
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L ((c : Thread nD τ), sm) = {()} := if_pos rfl

/-- A sum of tallies is positive at a cell only where one of them is. -/
theorem sum_pos {ι : Type} (f : ι → CellTallies nD τ sig Unit) (g : GSem nD τ sig) (u : Unit) (l : List ι) (h : 0 < (l.map f).sum g u) :
    ∃ x ∈ l, 0 < f x g u := by
  induction l with
  | nil => exact absurd h (Nat.lt_irrefl 0)
  | cons x l ih =>
    rw [List.map_cons, List.sum_cons, Pi.add_apply, Finsupp.add_apply] at h
    rcases Nat.eq_zero_or_pos (f x g u) with h0 | h0
    · rw [h0, zero_add] at h
      obtain ⟨y, hy, hp⟩ := ih h
      exact ⟨y, List.mem_cons_of_mem _ hy, hp⟩
    · exact ⟨x, List.mem_cons_self, h0⟩

theorem tally_pos {g g' : GSem nD τ sig} {k : ℕ} {u : Unit} (h : 0 < tallyAt g' () k g u) : g = g' := by
  rw [tallyAt_apply] at h
  by_contra hn
  rw [if_neg (fun h' => hn h'.1)] at h
  exact Nat.lt_irrefl 0 h

theorem owedSend_pos {c : Dev nD} {l : List (Fin 32)} {g : GSem nD τ sig} {u : Unit} (h : 0 < owedSend c l g u) :
    ∃ c' : Dev nD, g = dCell c' (sR c) := by
  obtain ⟨d, -, hp⟩ := sum_pos _ g u l h
  exact ⟨c + d, tally_pos hp⟩

theorem O₀_pos {c : Dev nD} {g : GSem nD τ sig} {u : Unit} (h : 0 < O₀ c g u) :
    (∃ c' : Dev nD, g = dCell c' (sR c)) ∨ ∃ c' : Dev nD, g = barCell c' := by
  unfold O₀ at h
  rw [Pi.add_apply, Finsupp.add_apply] at h
  rcases Nat.eq_zero_or_pos (owedSend c sentList g u) with h0 | h0
  · rw [h0, zero_add] at h
    obtain ⟨d, -, hp⟩ := sum_pos _ g u offs h
    exact .inr ⟨c + d, tally_pos hp⟩
  · exact .inl (owedSend_pos h0)

theorem lv_recv (c : Dev nD) (s : Fin 32) (u : Unit) : lv (dCell c (sR s)) u = 2 := by
  show roleLevel (role (.dma (sR s))) = 2; rw [role_recv]; rfl
theorem lv_bar (c : Dev nD) (u : Unit) : lv (barCell c) u = 1 := by show roleLevel (role (.reg bar)) = 1; rw [role_bar]; rfl

/-- A wait at a cell of level 0 while owing as at launch, or less. -/
theorem mayWait_zero_level (c : Dev nD) (q : DmaSem sig) (hq : roleLevel (role (.dma q)) = 0) (O : CellTallies nD τ sig Unit)
    (hO : ∀ g u, 0 < O g u → 0 < O₀ c g u) : (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by
      rcases O₀_pos (hO g u hg) with ⟨c', rfl⟩ | ⟨c', rfl⟩ <;> exact Finset.mem_singleton_self _)
    (fun p hp => by rw [Finset.mem_singleton.mp hp]; exact hq.le)
    (fun g u hg => by
      rcases O₀_pos (hO g u hg) with ⟨c', rfl⟩ | ⟨c', rfl⟩
      · rw [lv_recv]; decide
      · rw [lv_bar]; decide)

/-- The barrier wait while owing the copies only. -/
theorem mayWait_bar (c : Dev nD) : (levAts L lv : sProp 𝕄) ⊢ MayWait (c : Thread nD τ) (.reg bar) () (owedSend c sentList) :=
  MayOwe.of_cut (L := L) (lev := lv) 1 (fun p hp => by rw [Finset.mem_singleton.mp hp, L_tc]; exact Finset.mem_singleton_self _)
    (fun g u hg => by obtain ⟨c', rfl⟩ := owedSend_pos hg; exact Finset.mem_singleton_self _)
    (fun p hp => by rw [Finset.mem_singleton.mp hp]; exact (lv_bar c ()).le)
    (fun g u hg => by obtain ⟨c', rfl⟩ := owedSend_pos hg; rw [lv_recv]; decide)

end Cert.KernelIdealProof

end
-- ==== Proof.KernelIdealExec.lean ====
/-
The four loops of the folded body, each by induction over its list with one rule per step: the signals, the copies, the
waits for what the other devices send, and the waits for its own copies to have been read.
-/
module

public import proofs.«01_k».proof.Proof.KernelIdealSched
public import Idealize.ShloMosaic.Lib.Pipeline.BigSepL

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, indexed, and what every device knows of them -/

/-- The kernel's own semaphores: 32 for sending, 32 for receiving, one for the load. -/
def osem (i : Fin 65) : SemLoc sig := .dma ⟨i.val + 1, by have := i.isLt; show i.val + 1 < 66; omega⟩
/-- The barrier semaphore and those. -/
def csem (i : Fin 66) : SemLoc sig := Fin.cases (.reg bar) osem i
def kcell (ck : Dev nD × Fin 66) : GSem nD τ sig := ((ck.1 : Thread nD τ), csem ck.2)

/-- A cell's invariant, at some name, and that its round 0 is reached. -/
def known (g : GSem nD τ sig) : sProp 𝕄 := iprop(∃ κ : ℕ, cellInv ER (Rd m) κ g ∗ reached ER g 0)
instance known_persistent (g : GSem nD τ sig) : BI.Persistent (known m g) := by unfold known; infer_instance

def recs : sProp 𝕄 := bigSep Finset.univ fun ck : Dev nD × Fin 66 => known m (kcell ck)
instance recs_persistent : BI.Persistent (recs m) := by unfold recs; infer_instance

theorem known_bar (c : Dev nD) : recs m ⊢ known m (barCell c) := by
  unfold recs; exact bigSep_elim (Finset.mem_univ (c, (0 : Fin 66)))

theorem known_own (c : Dev nD) (i : Fin 65) : recs m ⊢ known m ((c : Thread nD τ), osem i) := by
  unfold recs; exact bigSep_elim (Finset.mem_univ (c, i.succ))

theorem known_dma (c : Dev nD) (q : DmaSem sig) (hq : 0 < q.val) : recs m ⊢ known m (dCell c q) := by
  have h := known_own m c ⟨q.val - 1, by have := q.isLt; have h66 : sig.nDmaSem = 66 := rfl; omega⟩
  rwa [show osem ⟨q.val - 1, _⟩ = SemLoc.dma q from congrArg SemLoc.dma (Fin.ext (by show q.val - 1 + 1 = q.val; omega))] at h

/-! ## Running a list -/

variable {α : Type}

theorem each_cons {ι : Type} (f : ι → KProg F PUnit) (x : ι) (l : List ι) (k : PUnit → KProg F α) :
    (each f (x :: l) >>= k) = (f x >>= fun _ => each f l >>= k) := by
  exact Prog.bind_assoc (f x) (fun _ => each f l) k

theorem each_nil {ι : Type} (f : ι → KProg F PUnit) (k : PUnit → KProg F α) : (each f [] >>= k) = k ⟨⟩ := rfl

abbrev wpc (c : Dev nD) (p : KProg F α) (Q : α → sProp 𝕄) : sProp 𝕄 :=
  wp frame (wpE (defs₀ (F := F)) 𝒱₀ (c : Thread nD τ) none) Set.univ p Q

/-! ## The signals -/

/-- What the signal at distance `d` hands over and the right to pay it. -/
def sigItem (c d : Fin 32) : sProp 𝕄 := iprop(dutyTok ER (barCell (c + d)) 0 c ∗ someRow c (c + d))

theorem ne_add (c d : Fin 32) : d ≠ 0 → c ≠ c + d := by revert c d; decide +kernel

theorem wp_sig {Q : α → sProp 𝕄} (c d : Fin 32) (hd : d ≠ 0) (X : CellTallies nD τ sig Unit) (W : Waits sig Unit) (k : PUnit → KProg F α) :
    iprop(recs m ∗ owes (c : Thread nD τ) (X + tallyAt (barCell (c + d)) () 1) W ∗ sigItem c d)
      ⊢ iprop((owes (c : Thread nD τ) X W -∗ wpc c (k ⟨⟩) Q) -∗ wpc c (signalTo (c + d) >>= k) Q) := by
  iintro ⟨#HR, HO, HI⟩ Hk
  unfold sigItem
  icases HI with ⟨Ht, Hrow⟩
  ihave #Hkn := (known_bar m (c + d)) $$ HR
  unfold known
  icases Hkn with ⟨%κ, #HI, #Hr⟩
  have hsig := Rounds.wp_signal (k := k) (Q := Q) 𝒱₀ ER (Rd m) (c : Thread nD τ) none (dst := ((c + d : Dev nD) : Thread nD τ)) (κ := κ) (Es := Set.univ) (W := W)
      (defs := defs₀ (F := F)) (Γ := [])
      (d := c) (by rw [duties_bar]; exact Finset.mem_erase.mpr ⟨ne_add c d hd, Finset.mem_univ _⟩) (amount_bar m (c + d) c) () X rfl
  iapply hsig $$ [HO Ht Hrow]
  · isplitr; · iexact HI
    isplitl [HO]; · iexact HO
    isplitl [Ht]; · iexact Ht
    isplitl [Hrow]; · rw [payload_bar]; iexact Hrow
    iexact Hr
  iexact Hk

theorem wp_signals {Q : α → sProp 𝕄} (c : Fin 32) (l : List (Fin 32)) (hl : ∀ d ∈ l, d ≠ 0) (X : CellTallies nD τ sig Unit) (W : Waits sig Unit) (k : PUnit → KProg F α) :
    iprop(recs m ∗ owes (c : Thread nD τ) (X + owedSig c l) W ∗ bigSepL l (sigItem c))
      ⊢ iprop((owes (c : Thread nD τ) X W -∗ wpc c (k ⟨⟩) Q) -∗ wpc c (each signalTo (l.map (fun d => c + d)) >>= k) Q) := by
  induction l with
  | nil =>
    iintro ⟨#HR, HO, HI⟩ Hk
    rw [List.map_nil, each_nil, show X + owedSig c [] = X from add_zero X]
    iapply Hk; iexact HO
  | cons d l ih =>
    rw [List.map_cons, each_cons, owedSig_cons, ← add_assoc, bigSepL_cons']
    iintro ⟨#HR, HO, Hd, HI⟩ Hk
    iapply (wp_sig m c d (hl d List.mem_cons_self) (X + owedSig c l) W) $$ [HO Hd]
    · isplitr; · iexact HR
      isplitl [HO] <;> iassumption
    iintro HO
    iapply (ih fun d h => hl d (List.mem_cons_of_mem _ h)) $$ [HO HI]
    · isplitr; · iexact HR
      isplitl [HO] <;> iassumption
    iexact Hk

/-! ## The copies -/

theorem row_words (c : Fin 32) : (row c).view.WordExact := by
  have h : (ownRow commM c).view.WordExact :=
    ((Memref.isWhole_whole cc0_scratch1).wordExact_slice rfl _ (k0_off3_wordsbf16 c)).reshape _ _
  rwa [ownRow_eq] at h

theorem sendTo_eq (c d : Fin 32) :
    (sendTo commM (Memref.isWhole_whole _) cc0_scratch2 cc0_scratch3 c (c + d, d) : KProg F PUnit)
      = Prog.lift (.enqueueDma (row c) (.remote (Dev.tc (c + d : Dev nD)) (row c) (.dma (sS d))) (.dma (sR c)) (row_words c) (row_words c) ⟨⟨rfl, Or.inl rfl⟩, trivial⟩) := by
  have key : ∀ (R : Memref sig .tc .vmem S1x768 .bf16) (q q' : DmaSem sig) (h₁ h₂ : R.view.WordExact) (h₃ : DmaTarget.Typed (nD := nD) (τ := τ) .vmem (.dma q') (.remote (Dev.tc (c + d : Dev nD)) R (.dma q))),
      R = row c → q = sS d → q' = sR c →
      (Prog.lift (.enqueueDma R (.remote (Dev.tc (c + d : Dev nD)) R (.dma q)) (.dma q') h₁ h₂ h₃) : KProg F PUnit)
        = Prog.lift (.enqueueDma (row c) (.remote (Dev.tc (c + d : Dev nD)) (row c) (.dma (sS d))) (.dma (sR c)) (row_words c) (row_words c) ⟨⟨rfl, Or.inl rfl⟩, trivial⟩) := by
    intro R q q' h₁ h₂ h₃ e e₁ e₂
    subst e e₁ e₂
    rfl
  exact key _ _ _ _ _ _ (ownRow_eq c) (semAt_eq d) (ownSem_eq c)

/-- What the copy at distance `d` needs: the right to pay its two semaphores, its share of the device's own row, and
    the row it writes. -/
def sendItem (c d : Fin 32) : sProp 𝕄 :=
  iprop(dutyTok ER (dCell c (sS d)) 0 0 ∗ dutyTok ER (dCell (c + d) (sR c)) 0 0 ∗ rowPts c c (lent d) (commC m) ∗ someRow (c + d) c)

/-- The right to wait until the copy on send semaphore `d` has read its source. -/
def sentCred (c d : Fin 32) : sProp 𝕄 := cred (tallyAt (dCell c (sS d)) () N)

theorem wp_snd {Q : α → sProp 𝕄} (c d : Fin 32) (hd : d ≠ 0) (X : CellTallies nD τ sig Unit) (W : Waits sig Unit) (k : PUnit → KProg F α) :
    iprop(recs m ∗ owes (c : Thread nD τ) (X + tallyAt (dCell (c + d) (sR c)) () N) W ∗ sendItem m c d)
      ⊢ iprop((iprop(sentCred c d ∗ owes (c : Thread nD τ) X W) -∗ wpc c (k ⟨⟩) Q)
          -∗ wpc c (sendTo commM (Memref.isWhole_whole _) cc0_scratch2 cc0_scratch3 c (c + d, d) >>= k) Q) := by
  rw [sendTo_eq]
  iintro ⟨#HR, HO, HI⟩ Hk
  unfold sendItem sentCred
  icases HI with ⟨HtS, HtR, Hrow, ⟨%fd, Hdst⟩⟩
  ihave #Hk1 := (known_dma m c (sS d) (by show 0 < 1 + d.val; omega)) $$ HR
  ihave #Hk2 := (known_dma m (c + d) (sR c) (by show 0 < 33 + c.val; omega)) $$ HR
  unfold known
  icases Hk1 with ⟨%κ₁, #HI1, #Hr1⟩
  icases Hk2 with ⟨%κ₂, #HI2, #Hr2⟩
  have hsnd := Rounds.wp_send_pointsTo (k := k) (Q := Q) 𝒱₀ ER (Rd m) (c : Thread nD τ) none (c' := ((c + d : Dev nD) : Thread nD τ))
    (src := row c) (dst := row c) (hsc := rfl) (sS := .dma (sS d)) (sem := .dma (sR c)) (hsrc := row_words c) (hdst := row_words c)
    (hsem := ⟨⟨rfl, Or.inl rfl⟩, trivial⟩) (q := lent d) (fs := commC m) (fd := fd)
    (κ₁ := κ₁) (κ₂ := κ₂) (Es := Set.univ) (W := W) (defs := defs₀ (F := F)) (Γ := [])
    (r₁ := 0) (r₂ := 0) (d₁ := 0) (d₂ := 0)
    (by rw [duties_send m c d hd]; exact Finset.mem_singleton_self _) (by rw [duties_recv m (c + d) c (ne_add c d hd)]; exact Finset.mem_singleton_self _)
    () () N (row_amount c (sR c)) (amount_send m c d 0) (amount_recv m (c + d) c 0) X rfl
    (by rw [payload_send]) (by rw [payload_recv]; exact Entails.of_eq (pointsTo_congr (row_copied c fd (commC m))))
  iapply hsnd $$ [HO HtS HtR Hrow Hdst]
  · isplitr; · iexact HI1
    isplitr; · iexact HI2
    isplitl [Hrow]; · iexact Hrow
    isplitl [Hdst]; · iexact Hdst
    isplitl [HO]; · iexact HO
    isplitl [HtS]; · iexact HtS
    isplitr; · iexact Hr1
    isplitl [HtR]; · iexact HtR
    iexact Hr2
  iexact Hk

theorem wp_sends {Q : α → sProp 𝕄} (c : Fin 32) (l : List (Fin 32)) (hl : ∀ d ∈ l, d ≠ 0) (X : CellTallies nD τ sig Unit) (W : Waits sig Unit) (k : PUnit → KProg F α) :
    iprop(recs m ∗ owes (c : Thread nD τ) (X + owedSend c l) W ∗ bigSepL l (sendItem m c))
      ⊢ iprop((iprop(bigSepL l (sentCred c) ∗ owes (c : Thread nD τ) X W) -∗ wpc c (k ⟨⟩) Q)
          -∗ wpc c (each (sendTo commM (Memref.isWhole_whole _) cc0_scratch2 cc0_scratch3 c) (l.map (fun d => (c + d, d))) >>= k) Q) := by
  induction l generalizing k with
  | nil =>
    iintro ⟨#HR, HO, HI⟩ Hk
    rw [List.map_nil, each_nil, show X + owedSend c [] = X from add_zero X]
    iapply Hk
    isplitl [HI]; · iexact HI
    iexact HO
  | cons d l ih =>
    rw [List.map_cons, each_cons, owedSend_cons, ← add_assoc, bigSepL_cons', bigSepL_cons']
    iintro ⟨#HR, HO, Hd, HI⟩ Hk
    iapply (wp_snd m c d (hl d List.mem_cons_self) (X + owedSend c l) W) $$ [HO Hd]
    · isplitr; · iexact HR
      isplitl [HO] <;> iassumption
    iintro ⟨Hc, HO⟩
    iapply (ih (fun d h => hl d (List.mem_cons_of_mem _ h)) k) $$ [HO HI]
    · isplitr; · iexact HR
      isplitl [HO] <;> iassumption
    iintro ⟨Hcs, HO⟩
    iapply Hk
    isplitl [Hc Hcs]
    · isplitl [Hc] <;> iassumption
    iexact HO

/-! ## The waits for what the others send -/

theorem row_amt (s : Fin 32) : (row s).view.dmaCredit = N := by unfold N; rfl

theorem recvFrom_eq (c : Fin 32) (r : Fin 31) :
    (recvFrom commM (Memref.isWhole_whole _) cc0_scratch3 c r : KProg F PUnit)
      = Prog.lift (.waitDma2 (sR (c + r.succ)) (row (c + r.succ)) (row (c + r.succ)) (row_words _) (row_words _)) := by
  have key : ∀ (R : Memref sig .tc .vmem S1x768 .bf16) (q : DmaSem sig) (h₁ h₂ : R.view.WordExact),
      R = row (c + r.succ) → q = sR (c + r.succ) →
      (Prog.lift (.waitDma2 q R R h₁ h₂) : KProg F PUnit)
        = Prog.lift (.waitDma2 (sR (c + r.succ)) (row (c + r.succ)) (row (c + r.succ)) (row_words _) (row_words _)) := by
    intro R q h₁ h₂ e e₁
    subst e e₁
    rfl
  exact key _ _ _ _ (farRow_eq c r) (farSem_eq c r)

theorem sentTo_eq (c d : Fin 32) :
    (sentTo commM (Memref.isWhole_whole _) cc0_scratch2 c d : KProg F PUnit)
      = Prog.lift (.waitDma2 (sS d) (row c) (row c) (row_words _) (row_words _)) := by
  have key : ∀ (R : Memref sig .tc .vmem S1x768 .bf16) (q : DmaSem sig) (h₁ h₂ : R.view.WordExact),
      R = row c → q = sS d →
      (Prog.lift (.waitDma2 q R R h₁ h₂) : KProg F PUnit)
        = Prog.lift (.waitDma2 (sS d) (row c) (row c) (row_words _) (row_words _)) := by
    intro R q h₁ h₂ e e₁
    subst e e₁
    rfl
  exact key _ _ _ _ (ownRow_eq c) (semAt_eq d)

/-- A wait of a row's credit on a cell with one payer, owing nothing: what the payer hands over. -/
theorem wp_rowWait {Q : α → sProp 𝕄} (c s : Fin 32) (q : DmaSem sig) (hq : 0 < q.val) (P : sProp 𝕄)
    (hx : (Rd (F := F) m).expect (dCell c q) 0 = N)
    (hP : bigSep ((Rd (F := F) m).duties (dCell c q) 0 \ ∅) (fun p => (Rd (F := F) m).payload (dCell c q) 0 p) = P)
    (W : Waits sig Unit) (k : PUnit → KProg F α) :
    iprop(recs m ∗ owes (c : Thread nD τ) 0 W ∗ cred (tallyAt (dCell c q) () N) ∗ atPos ER (dCell c q) 0 ∅ 0)
      ⊢ iprop((iprop((P ∗ atPos ER (dCell c q) 1 ∅ 0) ∗ ∃ W', owes (c : Thread nD τ) 0 W') -∗ wpc c (k ⟨⟩) Q)
          -∗ wpc c ((Prog.lift (.waitDma2 q (row s) (row s) (row_words _) (row_words _)) : KProg F PUnit) >>= k) Q) := by
  iintro ⟨#HR, HO, Hc, Hat⟩ Hk
  ihave #Hk1 := (known_dma m c q hq) $$ HR
  unfold known
  icases Hk1 with ⟨%κ, #HI, #Hr⟩
  have hw := Rounds.wp_wait_rest_token (k := k) (Q := Q) 𝒱₀ ER (Rd m) (c : Thread nD τ) none (κ := κ)
      (wpE_waitDma2_eq (defs := defs₀ (F := F)) (src := row s) (dst := row s) (hsrc := row_words s) (hdst := row_words s) (sem := q) 𝒱₀ (c : Thread nD τ) none Set.univ)
      (Set.mem_univ _) () (O := 0) (W := W) (R := 0) (m := 0) (T := ∅) (by rw [Nat.zero_add, hx]; exact row_amt s)
  rw [row_amt, hP] at hw
  iapply hw $$ [HO Hc Hat]
  · isplitr; · iexact HI
    isplitl [Hc]; · iexact Hc
    isplitl [HO]; · iexact HO
    isplitr; · rw [MayWait_zero]; iempintro
    iexact Hat
  iintro ⟨HO, Hat, -, HP⟩
  iapply Hk
  isplitl [HP Hat]
  · isplitl [HP] <;> iassumption
  iexists _
  iexact HO

/-- What a device waits with for the row of the device at distance `d`, and what it has after. -/
abbrev recvItem (c d : Fin 32) : sProp 𝕄 :=
  iprop(cred (tallyAt (dCell c (sR (c + d))) () N) ∗ atPos ER (dCell c (sR (c + d))) 0 ∅ 0)
abbrev recvDone (c d : Fin 32) : sProp 𝕄 :=
  iprop(rowPts c (c + d) fullShare (commC m) ∗ atPos ER (dCell c (sR (c + d))) 1 ∅ 0)

theorem wp_recvs {Q : α → sProp 𝕄} (c : Fin 32) (l : List (Fin 31)) (W : Waits sig Unit) (k : PUnit → KProg F α) :
    iprop(recs m ∗ owes (c : Thread nD τ) 0 W ∗ bigSepL (l.map Fin.succ) (recvItem c))
      ⊢ iprop((iprop(bigSepL (l.map Fin.succ) (recvDone m c) ∗ ∃ W', owes (c : Thread nD τ) 0 W') -∗ wpc c (k ⟨⟩) Q)
          -∗ wpc c (each (recvFrom commM (Memref.isWhole_whole _) cc0_scratch3 c) l >>= k) Q) := by
  induction l generalizing W with
  | nil =>
    iintro ⟨#HR, HO, HI⟩ Hk
    rw [List.map_nil, each_nil]
    iapply Hk
    isplitl [HI]; · iexact HI
    iexists W; iexact HO
  | cons r l ih =>
    rw [List.map_cons, each_cons, bigSepL_cons', bigSepL_cons', recvFrom_eq]
    iintro ⟨#HR, HO, Hd, HI⟩ Hk
    have hne : (c + r.succ : Fin 32) ≠ c := (ne_add c r.succ (Fin.succ_ne_zero r)).symm
    iapply (wp_rowWait m c (c + r.succ) (sR (c + r.succ)) (by show 0 < 33 + (c + r.succ : Fin 32).val; omega) _
      (expect_recv m c _ hne) (rest_recv m c _ hne) W) $$ [HO Hd]
    · isplitr; · iexact HR
      isplitl [HO]; · iexact HO
      iexact Hd
    iintro ⟨Hdn, ⟨%W', HO⟩⟩
    iapply (ih W') $$ [HO HI]
    · isplitr; · iexact HR
      isplitl [HO] <;> iassumption
    iintro ⟨Hds, HO⟩
    iapply Hk
    isplitl [Hdn Hds]
    · isplitl [Hdn]; · iexact Hdn
      iexact Hds
    iexact HO

/-! ## The waits for its own copies -/

abbrev sentItem (c d : Fin 32) : sProp 𝕄 := iprop(sentCred c d ∗ atPos ER (dCell c (sS d)) 0 ∅ 0)
abbrev sentDone (c d : Fin 32) : sProp 𝕄 := iprop(rowPts c c (lent d) (commC m) ∗ atPos ER (dCell c (sS d)) 1 ∅ 0)

theorem wp_sents {Q : α → sProp 𝕄} (c : Fin 32) (l : List (Fin 32)) (hl : ∀ d ∈ l, d ≠ 0) (W : Waits sig Unit) (k : PUnit → KProg F α) :
    iprop(recs m ∗ owes (c : Thread nD τ) 0 W ∗ bigSepL l (sentItem c))
      ⊢ iprop((iprop(bigSepL l (sentDone m c) ∗ ∃ W', owes (c : Thread nD τ) 0 W') -∗ wpc c (k ⟨⟩) Q)
          -∗ wpc c (each (sentTo commM (Memref.isWhole_whole _) cc0_scratch2 c) l >>= k) Q) := by
  induction l generalizing W with
  | nil =>
    iintro ⟨#HR, HO, HI⟩ Hk
    rw [each_nil]
    iapply Hk
    isplitl [HI]; · iexact HI
    iexists W; iexact HO
  | cons d l ih =>
    rw [each_cons, bigSepL_cons', bigSepL_cons', sentTo_eq]
    iintro ⟨#HR, HO, Hd, HI⟩ Hk
    have hne := hl d List.mem_cons_self
    iapply (wp_rowWait m c c (sS d) (by show 0 < 1 + d.val; omega) _
      (expect_send m c d hne) (rest_send m c d hne) W) $$ [HO Hd]
    · isplitr; · iexact HR
      isplitl [HO]; · iexact HO
      iexact Hd
    iintro ⟨Hdn, ⟨%W', HO⟩⟩
    iapply (ih (fun d h => hl d (List.mem_cons_of_mem _ h)) W') $$ [HO HI]
    · isplitr; · iexact HR
      isplitl [HO] <;> iassumption
    iintro ⟨Hds, HO⟩
    iapply Hk
    isplitl [Hdn Hds]
    · isplitl [Hdn]; · iexact Hdn
      iexact Hds
    iexact HO

end Cert.KernelIdealProof

end
-- ==== Proof.KernelIdealSteps.lean ====
/-
The remaining steps of the folded body: the copy of the input, its wait, the store of the device's own row, the barrier
wait, the reduction over the communication buffer, and how that buffer and the cells are cut up and put together.
-/
module

public import proofs.«01_k».proof.Proof.KernelIdealExec

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}

/-! ## Going around the devices -/

/-- The distances of the other devices. -/
abbrev others : Finset (Fin 32) := Finset.univ.erase 0

theorem fin_cancel : ∀ c a b : Fin 32, c + a = c + b → a = b := by decide +kernel

theorem around (c : Fin 32) (Φ : Fin 32 → sProp 𝕄) : bigSep (Finset.univ.erase c) Φ = bigSep others (fun d => Φ (c + d)) := by
  have h : others.image (fun d => c + d) = Finset.univ.erase c := by revert c; decide +kernel
  rw [← h]
  exact bigSep_image_of_injOn (fun a _ b _ e => fin_cancel c a b e) Φ

theorem univ_around (c : Fin 32) (Φ : Fin 32 → sProp 𝕄) :
    bigSep Finset.univ Φ = iprop(Φ c ∗ bigSep others (fun d => Φ (c + d))) := by
  rw [bigSep_univ_at Φ c, around]

theorem in_offs (Φ : Fin 32 → sProp 𝕄) : bigSep others Φ = bigSepL offs Φ := bigSep_eq_bigSepL_of_eq offs offs_set.symm offs_nodup Φ
theorem in_sent (Φ : Fin 32 → sProp 𝕄) : bigSep others Φ = bigSepL sentList Φ := bigSep_eq_bigSepL_of_eq sentList sent_set.symm sent_nodup Φ
theorem in_froms (Φ : Fin 32 → sProp 𝕄) : bigSep others Φ = bigSepL (recvList.map Fin.succ) Φ := by
  rw [← froms_eq]; exact bigSep_eq_bigSepL_of_eq froms froms_set.symm froms_nodup Φ

/-! ## The communication buffer by rows -/

abbrev commPts (c : Dev nD) (q : PosShare TreeShare) (f : (cc0_scratch1 : Ref sig .tc).ty.Contents (Elt F)) : sProp 𝕄 :=
  ((c : Thread nD τ).loc cc0_scratch1) ↦{q} f

theorem comm_rows (c : Fin 32) (q : PosShare TreeShare) (f : (cc0_scratch1 : Ref sig .tc).ty.Contents (Elt F)) :
    commPts c q f = iprop(rowPts c c q f ∗ bigSep others (fun d => rowPts c (c + d) q f)) := by
  refine Eq.trans ?_ (univ_around c (fun s => rowPts c s q f))
  have h := pointsTo_biUnion (Ix := Unit) (Name := ℕ) (U := UU) (Lvl := ℕ) (ℓ := (c : Thread nD τ).loc cc0_scratch1) (q := q) (f := f)
    (Finset.univ : Finset (Fin 32)) rowSet (fun s _ t _ e => rows_disjoint s t e)
  rw [rows_cover] at h
  exact h

/-- Every share of a row, and of all rows but its own: the part that is read, and the parts lent. -/
theorem row_split (c s : Fin 32) (f : (cc0_scratch1 : Ref sig .tc).ty.Contents (Elt F)) :
    rowPts c s fullShare f ⊣⊢ iprop(rowPts c s (Transfers.shareDrop fullShare 32) f ∗ bigSep Finset.univ (fun d : Fin 32 => rowPts c s (lent d) f)) :=
  ⟨Transfers.pointsTo_toks_split fullShare 32, Transfers.pointsTo_toks_join fullShare 32⟩

/-! ## The copy of the input -/

theorem wp_issue {Q : α → sProp 𝕄} (c : Fin 32) (f : (cc0_scratch0 : Ref sig .tc).ty.Contents (Elt F)) (k : PUnit → KProg F α) :
    iprop(recs m ∗ dutyTok ER (dCell c sL) 0 0 ∗ argPts m c ∗ xvPts c f)
      ⊢ iprop((cred (tallyAt (dCell c sL) () NL) -∗ wpc c (k ⟨⟩) Q)
          -∗ wpc c ((Prog.lift (.enqueueDma argM (.here xvM) (.dma (cc0_scratch4 : DmaSems sig S_).sem) (Memref.isWhole_whole _).wordExact (Memref.isWhole_whole _).wordExact ⟨Or.inl rfl, trivial⟩) : KProg F PUnit) >>= k) Q) := by
  have key : ∀ (q : DmaSem sig) (h₁ : argM.view.WordExact) (h₂ : xvM.view.WordExact) (h₃ : DmaTarget.Typed (nD := nD) (τ := τ) (p := .tc) .hbm (.dma q) (.here xvM)), q = sL →
      iprop(recs m ∗ dutyTok ER (dCell c sL) 0 0 ∗ argPts m c ∗ xvPts c f)
        ⊢ iprop((cred (tallyAt (dCell c sL) () NL) -∗ wpc c (k ⟨⟩) Q)
          -∗ wpc c ((Prog.lift (.enqueueDma argM (.here xvM) (.dma q) h₁ h₂ h₃) : KProg F PUnit) >>= k) Q) := by
    intro q h₁ h₂ h₃ e
    subst e
    iintro ⟨#HR, Ht, Ha, Hx⟩ Hk
    ihave #Hk1 := (known_dma m c sL (by decide)) $$ HR
    unfold known
    icases Hk1 with ⟨%κ, #HI, #Hr⟩
    have hcp := Rounds.wp_copy_pointsTo (k := k) (Q := Q) 𝒱₀ ER (Rd m) (c : Thread nD τ) none (src := argM) (dst := xvM) (sem := .dma sL)
      (hsrc := h₁) (hdst := h₂) (hsem := h₃) (q := fullShare) (fs := xIn m c) (fd := f) (κ := κ) (Es := Set.univ) (defs := defs₀ (F := F)) (Γ := [])
      (r := 0) (d := 0)
      (by rw [duties_load]; exact Finset.mem_singleton_self _) () NL (xv_amount sL) (amount_load m c 0)
      (by
        rw [payload_load]
        refine sep_mono_left (Entails.of_eq (pointsTo_congr fun i hi => ?_))
        obtain ⟨x, -, rfl⟩ := Finset.mem_map.mp hi
        rw [View.write_emb_of_mem (h := Finset.mem_univ x), View.read_apply]
        rfl)
    iapply hcp $$ [Ht Ha Hx]
    · isplitr; · iexact HI
      isplitl [Ha]; · iexact Ha
      isplitl [Hx]; · iexact Hx
      isplitl [Ht]; · iexact Ht
      iexact Hr
    iexact Hk
  exact key _ _ _ _ load_eq

theorem xv_credit : xvM.view.dmaCredit = NL := by unfold NL; rfl

theorem wp_loaded {Q : α → sProp 𝕄} (c : Fin 32) (W : Waits sig Unit) (k : PUnit → KProg F α) :
    iprop(recs m ∗ levAts L lv ∗ owes (c : Thread nD τ) (owedSend c sentList) W ∗ cred (tallyAt (dCell c sL) () NL) ∗ atPos ER (dCell c sL) 0 ∅ 0)
      ⊢ iprop((iprop(argPts m c ∗ xvPts c (xIn m c) ∗ atPos ER (dCell c sL) 1 ∅ 0 ∗ ∃ W', owes (c : Thread nD τ) (owedSend c sentList) W') -∗ wpc c (k ⟨⟩) Q)
          -∗ wpc c ((Prog.lift (.waitDma2 (cc0_scratch4 : DmaSems sig S_).sem argM xvM (Memref.isWhole_whole _).wordExact (Memref.isWhole_whole _).wordExact) : KProg F PUnit) >>= k) Q) := by
  have key : ∀ (q : DmaSem sig) (h₁ : argM.view.WordExact) (h₂ : xvM.view.WordExact), q = sL →
    iprop(recs m ∗ levAts L lv ∗ owes (c : Thread nD τ) (owedSend c sentList) W ∗ cred (tallyAt (dCell c sL) () NL) ∗ atPos ER (dCell c sL) 0 ∅ 0)
      ⊢ iprop((iprop(argPts m c ∗ xvPts c (xIn m c) ∗ atPos ER (dCell c sL) 1 ∅ 0 ∗ ∃ W', owes (c : Thread nD τ) (owedSend c sentList) W') -∗ wpc c (k ⟨⟩) Q)
          -∗ wpc c ((Prog.lift (.waitDma2 q argM xvM h₁ h₂) : KProg F PUnit) >>= k) Q) := by
    intro q h₁ h₂ e
    subst e
    iintro ⟨#HR, #Hlev, HO, Hc, Hat⟩ Hk
    ihave #Hk1 := (known_dma m c sL (by decide)) $$ HR
    unfold known
    icases Hk1 with ⟨%κ, #HI, #Hr⟩
    have hw := Rounds.wp_wait_rest_token (k := k) (Q := Q) 𝒱₀ ER (Rd m) (c : Thread nD τ) none (κ := κ)
      (wpE_waitDma2_eq (defs := defs₀ (F := F)) (src := argM) (dst := xvM) (hsrc := h₁) (hdst := h₂) (sem := sL) 𝒱₀ (c : Thread nD τ) none Set.univ)
      (Set.mem_univ _) () (O := owedSend c sentList) (W := W) (R := 0) (m := 0) (T := ∅) (by rw [Nat.zero_add, expect_load]; exact xv_credit)
    rw [xv_credit, rest_load] at hw
    iapply hw $$ [HO Hc Hat]
    · isplitr; · iexact HI
      isplitl [Hc]; · iexact Hc
      isplitl [HO]; · iexact HO
      isplitr
      · iapply (mayWait_zero_level c sL (by rw [role_load]; rfl) (owedSend c sentList) (fun g u h => by
          show 0 < (owedSend c sentList + owedSig c offs) g u
          rw [Pi.add_apply, Finsupp.add_apply]; exact Nat.add_pos_left h _))
        iexact Hlev
      iexact Hat
    iintro ⟨HO, Hat, -, ⟨Hx, Ha⟩⟩
    iapply Hk
    isplitl [Ha]; · iexact Ha
    isplitl [Hx]; · iexact Hx
    isplitl [Hat]; · iexact Hat
    iexists _
    iexact HO
  exact key _ _ _ load_eq

/-! ## The device's own row -/

theorem hz2 : (![0, 0] : Fin 2 → Nat) = fun _ => 0 := funext fun a => by fin_cases a <;> rfl
theorem hz3 : (![0, 0, 0] : Fin 3 → Nat) = fun _ => 0 := funext fun a => by fin_cases a <;> rfl

theorem read_xv (f : (cc0_scratch0 : Ref sig .tc).ty.Contents (Elt F)) :
    xvM.view.readAt (Elt F) (Rect.unit (s := S1536x768) ![0, 0] S1536x768.size inb_S1536x768_S1536x768_0_0).toLoadRect f = f :=
  Memref.readAt_unit_zero (Elt F) cc0_scratch0 hz2 _ f
theorem read_comm (f : (cc0_scratch1 : Ref sig .tc).ty.Contents (Elt F)) :
    commM.view.readAt (Elt F) (Rect.unit (s := S32x1x768) ![0, 0, 0] S32x1x768.size inb_S32x1x768_S32x1x768_0_0_0).toLoadRect f = f :=
  Memref.readAt_unit_zero (Elt F) cc0_scratch1 hz3 _ f
theorem write_out (f w : (cc0_stg0_0 : Ref sig .tc).ty.Contents (Elt F)) :
    (outM.access (Rect.unit (s := S1x768) ![0, 0] S1x768.size inb_S1x768_S1x768_0_0)).write (Elt F) f w Finset.univ = w :=
  Memref.write_access_unit_zero_univ (Elt F) cc0_stg0_0 hz2 _ f w

theorem wp_readX {Q : α → sProp 𝕄} (c : Fin 32) (f : (cc0_scratch0 : Ref sig .tc).ty.Contents (Elt F))
    (hl : (xvM).view.LoadsAt (Rect.unit (s := S1536x768) ![0, 0] S1536x768.size inb_S1536x768_S1536x768_0_0).toLoadRect) (k : Vec F S1536x768 .bf16 → KProg F α) :
    xvPts c f ⊢ iprop((xvPts c f -∗ wpc c (k f) Q)
      -∗ wpc c ((Prog.lift (.load xvM (Rect.unit (s := S1536x768) ![0, 0] S1536x768.size inb_S1536x768_S1536x768_0_0).toLoadRect hl) : KProg F (Vec F S1536x768 .bf16)) >>= k) Q) := by
  have h := wp_load (defs := defs₀ (F := F)) (Γ := []) (k := k) (Q := Q) 𝒱₀ (c : Thread nD τ) none Set.univ (m := xvM)
    (r := (Rect.unit (s := S1536x768) ![0, 0] S1536x768.size inb_S1536x768_S1536x768_0_0).toLoadRect) (hl := hl) (S := xvM.view.set) (q := fullShare) (f := f)
    (by rw [show (xvM).view.set = Finset.univ from View.set_whole _]; exact Finset.subset_univ _)
  rw [read_xv] at h
  exact h

/-- A part of a buffer, written whole, holds what was written. -/
theorem slice_written {κ : Kind} (b : Ref sig κ) (r : Rect b.ty.shape) (f : b.ty.Contents (Elt F)) (w : r.shape.Idx → Elt F b.ty.elt) (j : r.shape.Idx) :
    ((View.whole b).slice r).write (Elt F) f w Finset.univ (r.emb j) = w j :=
  View.write_emb_of_mem (v := (View.whole b).slice r) f w (Finset.mem_univ j)

theorem own_stored (c : Fin 32) (f : (cc0_scratch1 : Ref sig .tc).ty.Contents (Elt F)) :
    ∀ i ∈ (row c).view.set, (commM.access (rowRect c)).write (Elt F) f (k0_pay1 (xIn m c)) Finset.univ i = commC m i := by
  intro i hi
  have hi' : i ∈ (rowRect c).set := (Finset.ext_iff.mp (row_set c) i).mp hi
  rw [← Rect.map_emb_univ] at hi'
  obtain ⟨j, -, rfl⟩ := Finset.mem_map.mp hi'
  exact (slice_written cc0_scratch1 (rowRect c) f (k0_pay1 (xIn m c)) j).trans (commC_emb m c j).symm

theorem wp_ownRow {Q : α → sProp 𝕄} (c : Fin 32) (f : (cc0_scratch1 : Ref sig .tc).ty.Contents (Elt F))
    (o : Fin 3 → ℕ) (ho : ∀ a, o a + S1x1x768.size a ≤ S32x1x768.size a) (e : o = ![c.val, 0, 0])
    (hl : commM.view.LoadsAt (Rect.unit (s := S32x1x768) o S1x1x768.size ho).toLoadRect)
    (hs : (commM.access (Rect.unit (s := S32x1x768) o S1x1x768.size ho)).Stores Finset.univ)
    (hm : (Finset.univ : Finset (Rect.unit (s := S32x1x768) o S1x1x768.size ho).shape.Idx) = Finset.univ ∨ ∀ a, (Rect.unit (s := S32x1x768) o S1x1x768.size ho).stride a = 1)
    (k : PUnit → KProg F α) :
    rowPts c c fullShare f ⊢ iprop((rowPts c c fullShare (commC m) -∗ wpc c (k ⟨⟩) Q)
      -∗ wpc c ((Prog.lift (.load commM (Rect.unit (s := S32x1x768) o S1x1x768.size ho).toLoadRect hl) : KProg F (Vec F S1x1x768 .bf16)) >>= fun _ =>
          (Prog.lift (.store commM (Rect.unit (s := S32x1x768) o S1x1x768.size ho) (k0_pay1 (xIn m c)) Finset.univ hs hm) : KProg F PUnit) >>= k) Q) := by
  subst e
  iintro Hr Hk
  have h := wp_load_rect (defs := defs₀ (F := F)) (Γ := []) (Q := Q) 𝒱₀ (c : Thread nD τ) none Set.univ (m := commM)
    (r := Rect.unit (s := S32x1x768) ![c.val, 0, 0] S1x1x768.size ho) (hl := hl) (S := (row c).view.set) (q := fullShare) (f := f)
    (k := fun _ => (Prog.lift (.store commM (Rect.unit (s := S32x1x768) ![c.val, 0, 0] S1x1x768.size ho) (k0_pay1 (xIn m c)) Finset.univ hs hm) : KProg F PUnit) >>= k)
    (by rw [row_set]; exact (View.set_slice_whole _ _).subset)
  iapply h $$ Hr
  iintro Hr
  have h' := wp_store (defs := defs₀ (F := F)) (Γ := []) (Q := Q) 𝒱₀ (c : Thread nD τ) none Set.univ (m := commM)
    (r := Rect.unit (s := S32x1x768) ![c.val, 0, 0] S1x1x768.size ho) (w := k0_pay1 (xIn m c)) (Mk := Finset.univ) (hx := hs) (hm := hm) (S := (row c).view.set) (f := f) (k := k)
    (by rw [row_set]; exact (View.set_slice_whole _ _).subset)
  iapply h' $$ Hr
  iintro Hr
  iapply Hk
  iapply (Entails.of_eq (pointsTo_congr (own_stored m c f)))
  iexact Hr

/-! ## The barrier wait -/

theorem wp_barrier {Q : α → sProp 𝕄} (c : Fin 32) (W : Waits sig Unit) (k : PUnit → KProg F α) :
    iprop(recs m ∗ levAts L lv ∗ owes (c : Thread nD τ) (owedSend c sentList) W ∗ cred (tallyAt (barCell c) () 31) ∗ atPos ER (barCell c) 0 ∅ 0)
      ⊢ iprop((iprop(bigSep others (fun d => someRow (c + d) c) ∗ atPos ER (barCell c) 1 ∅ 0 ∗ ∃ W', owes (c : Thread nD τ) (owedSend c sentList) W') -∗ wpc c (k ⟨⟩) Q)
          -∗ wpc c ((semWaitWord bar 31#32 : KProg F PUnit) >>= k) Q) := by
  iintro ⟨#HR, #Hlev, HO, Hc, Hat⟩ Hk
  ihave #Hk1 := (known_bar m c) $$ HR
  unfold known
  icases Hk1 with ⟨%κ, #HI, #Hr⟩
  have hw := Rounds.wp_wait_rest_token (k := k) (Q := Q) 𝒱₀ ER (Rd m) (c : Thread nD τ) none (κ := κ)
      (wpE_semWait_eq (defs := defs₀ (F := F)) (sem := bar) (k := 31) 𝒱₀ (c : Thread nD τ) none Set.univ)
      (Set.mem_univ _) () (O := owedSend c sentList) (W := W) (R := 0) (m := 0) (T := ∅) (by rw [expect_bar])
  rw [rest_bar, around] at hw
  iapply hw $$ [HO Hc Hat]
  · isplitr; · iexact HI
    isplitl [Hc]; · iexact Hc
    isplitl [HO]; · iexact HO
    isplitr; · iapply (mayWait_bar c); iexact Hlev
    iexact Hat
  iintro ⟨HO, Hat, -, HP⟩
  iapply Hk
  isplitl [HP]; · iexact HP
  isplitl [Hat]; · iexact Hat
  iexists _
  iexact HO

/-! ## The reduction -/

/-- What every device ends with. -/
def outV : (cc0_stg0_0 : Ref sig .tc).ty.Contents (Elt F) := k0_pay2 (commC m)

abbrev outPts (c : Dev nD) (f : (cc0_stg0_0 : Ref sig .tc).ty.Contents (Elt F)) : sProp 𝕄 := ((c : Thread nD τ).loc cc0_stg0_0) ↦{fullShare} f

theorem wp_reduce {Q : α → sProp 𝕄} (c : Fin 32) (q : PosShare TreeShare) (g : (cc0_stg0_0 : Ref sig .tc).ty.Contents (Elt F))
    (hl hl' hs hm) (k : PUnit → KProg F α) :
    iprop(commPts c q (commC m) ∗ outPts c g)
      ⊢ iprop((iprop(commPts c q (commC m) ∗ outPts c (outV m)) -∗ wpc c (k ⟨⟩) Q)
      -∗ wpc c ((Prog.lift (.load commM (Rect.unit (s := S32x1x768) ![0, 0, 0] S32x1x768.size inb_S32x1x768_S32x1x768_0_0_0).toLoadRect hl) : KProg F (Vec F S32x1x768 .bf16)) >>= fun y =>
          (Prog.lift (.load outM (Rect.unit (s := S1x768) ![0, 0] S1x768.size inb_S1x768_S1x768_0_0).toLoadRect hl') : KProg F (Vec F S1x768 .bf16)) >>= fun _ =>
          (Prog.lift (.store outM (Rect.unit (s := S1x768) ![0, 0] S1x768.size inb_S1x768_S1x768_0_0) (k0_pay2 y) Finset.univ hs hm) : KProg F PUnit) >>= k) Q) := by
  iintro ⟨Hc, Ho⟩ Hk
  have h := wp_load (defs := defs₀ (F := F)) (Γ := []) (Q := Q) 𝒱₀ (c : Thread nD τ) none Set.univ (m := commM)
    (r := (Rect.unit (s := S32x1x768) ![0, 0, 0] S32x1x768.size inb_S32x1x768_S32x1x768_0_0_0).toLoadRect) (hl := hl) (S := Finset.univ) (q := q) (f := commC m)
    (k := fun y => (Prog.lift (.load outM (Rect.unit (s := S1x768) ![0, 0] S1x768.size inb_S1x768_S1x768_0_0).toLoadRect hl') : KProg F (Vec F S1x768 .bf16)) >>= fun _ =>
          (Prog.lift (.store outM (Rect.unit (s := S1x768) ![0, 0] S1x768.size inb_S1x768_S1x768_0_0) (k0_pay2 y) Finset.univ hs hm) : KProg F PUnit) >>= k)
    (Finset.subset_univ _)
  rw [read_comm] at h
  iapply h $$ Hc
  iintro Hc
  have h1 := wp_load (defs := defs₀ (F := F)) (Γ := []) (Q := Q) 𝒱₀ (c : Thread nD τ) none Set.univ (m := outM)
    (r := (Rect.unit (s := S1x768) ![0, 0] S1x768.size inb_S1x768_S1x768_0_0).toLoadRect) (hl := hl') (S := Finset.univ) (q := fullShare) (f := g)
    (k := fun _ => (Prog.lift (.store outM (Rect.unit (s := S1x768) ![0, 0] S1x768.size inb_S1x768_S1x768_0_0) (k0_pay2 (commC m)) Finset.univ hs hm) : KProg F PUnit) >>= k)
    (Finset.subset_univ _)
  iapply h1 $$ Ho
  iintro Ho
  have h2 := wp_store (defs := defs₀ (F := F)) (Γ := []) (Q := Q) 𝒱₀ (c : Thread nD τ) none Set.univ (m := outM)
    (r := Rect.unit (s := S1x768) ![0, 0] S1x768.size inb_S1x768_S1x768_0_0) (w := k0_pay2 (commC m)) (Mk := Finset.univ) (hx := hs) (hm := hm) (S := Finset.univ) (f := g) (k := k)
    (Finset.subset_univ _)
  rw [write_out] at h2
  iapply h2 $$ Ho
  iintro Ho
  iapply Hk
  isplitl [Hc]; · iexact Hc
  iexact Ho

end Cert.KernelIdealProof

end
-- ==== Proof.KernelIdealBody.lean ====
/-
The body of one device, run from what it starts with to what it ends with: its argument unchanged, every row of the
communication buffer filled, the result, nothing owed, and every one of its semaphores back at zero.
-/
module

public import proofs.«01_k».proof.Proof.KernelIdealSteps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts with -/

/-- Its place at each of its own semaphores, and the right to pay each duty that is its own to pay. -/
def linear (c : Dev nD) : sProp 𝕄 :=
  iprop((atPos ER (barCell c) 0 ∅ 0 ∗ atPos ER (dCell c sL) 0 ∅ 0 ∗ bigSep Finset.univ (fun d : Fin 32 => atPos ER (dCell c (sS d)) 0 ∅ 0)
      ∗ bigSep Finset.univ (fun s : Fin 32 => atPos ER (dCell c (sR s)) 0 ∅ 0))
    ∗ (dutyTok ER (dCell c sL) 0 0 ∗ bigSep others (fun d => dutyTok ER (barCell (c + d : Fin 32)) 0 c)
      ∗ bigSep others (fun d => dutyTok ER (dCell c (sS d)) 0 0) ∗ bigSep others (fun d => dutyTok ER (dCell (c + d : Fin 32) (sR c)) 0 0)))

/-- What the other devices owe it. -/
def credits (c : Dev nD) : sProp 𝕄 :=
  iprop(cred (tallyAt (barCell c) () 31) ∗ bigSep others (fun d => cred (tallyAt (dCell c (sR (c + d : Fin 32))) () N)))

/-- All of its semaphores at zero. -/
def closedAll (c : Dev nD) : sProp 𝕄 :=
  iprop(semVal (barCell c) 0 ∗ semVal (dCell c sL) 0 ∗ bigSep Finset.univ (fun d : Fin 32 => semVal (dCell c (sS d)) 0)
    ∗ bigSep Finset.univ (fun s : Fin 32 => semVal (dCell c (sR s)) 0))

/-! ## Regrouping -/

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem sig_items (c : Fin 32) (f : (cc0_scratch1 : Ref sig .tc).ty.Contents (Elt F)) :
    iprop(bigSep others (fun d => dutyTok ER (barCell (c + d : Fin 32)) 0 c) ∗ bigSep others (fun d => rowPts c (c + d) fullShare f))
      ⊢ bigSepL offs (sigItem (F := F) c) := by
  rw [← in_offs, ← bigSep_sep']
  refine bigSep_mono fun d _ => ?_
  unfold sigItem
  exact sep_mono_right (exists_intro (Φ := fun f => rowPts c (c + d) fullShare f) f)

theorem send_items (c : Fin 32) :
    iprop(bigSep others (fun d => dutyTok ER (dCell c (sS d)) 0 0) ∗ bigSep others (fun d => dutyTok ER (dCell (c + d : Fin 32) (sR c)) 0 0)
        ∗ bigSep others (fun d => rowPts c c (lent d) (commC m)) ∗ bigSep others (fun d => someRow (c + d : Fin 32) c))
      ⊢ bigSepL sentList (sendItem m c) := by
  rw [← in_sent, ← bigSep_sep', ← bigSep_sep', ← bigSep_sep']
  exact .rfl

theorem recv_items (c : Fin 32) :
    iprop(bigSep others (fun d => cred (tallyAt (dCell c (sR (c + d : Fin 32))) () N)) ∗ bigSep others (fun d => atPos ER (dCell c (sR (c + d : Fin 32))) 0 ∅ 0))
      ⊢ bigSepL (recvList.map Fin.succ) (recvItem (F := F) c) := by
  rw [← in_froms, ← bigSep_sep']

theorem recv_dones (c : Fin 32) :
    bigSepL (recvList.map Fin.succ) (recvDone m c)
      ⊢ iprop(bigSep others (fun d => rowPts c (c + d) fullShare (commC m)) ∗ bigSep others (fun d => atPos ER (dCell c (sR (c + d : Fin 32))) 1 ∅ 0)) := by
  rw [← in_froms, ← bigSep_sep']

theorem sent_items (c : Fin 32) :
    iprop(bigSepL sentList (sentCred (F := F) c) ∗ bigSep others (fun d => atPos ER (dCell c (sS d)) 0 ∅ 0)) ⊢ bigSepL sentList (sentItem (F := F) c) := by
  rw [← in_sent, ← in_sent, ← bigSep_sep']

theorem sent_dones (c : Fin 32) :
    bigSepL sentList (sentDone m c)
      ⊢ iprop(bigSep others (fun d => rowPts c c (lent d) (commC m)) ∗ bigSep others (fun d => atPos ER (dCell c (sS d)) 1 ∅ 0)) := by
  rw [← in_sent, ← bigSep_sep']

/-- The whole communication buffer, in the part of each row that is read, apart from the rest of the received rows; -/
theorem read_part (c : Fin 32) :
    iprop(rowPts c c (Transfers.shareDrop fullShare 32) (commC m) ∗ bigSep others (fun d => rowPts c (c + d) fullShare (commC m)))
      ⊢ iprop(commPts c (Transfers.shareDrop fullShare 32) (commC m)
          ∗ bigSep others (fun d => bigSep Finset.univ (fun e : Fin 32 => rowPts c (c + d) (lent e) (commC m)))) := by
  rw [comm_rows]
  iintro ⟨H, Hs⟩
  have h : bigSep others (fun d => rowPts c (c + d) fullShare (commC m))
      ⊢ bigSep others (fun d => iprop(rowPts c (c + d) (Transfers.shareDrop fullShare 32) (commC m) ∗ bigSep Finset.univ (fun e : Fin 32 => rowPts c (c + d) (lent e) (commC m)))) :=
    bigSep_mono fun d _ => (row_split c (c + d) (commC m)).1
  ihave Hs := h $$ Hs
  ihave Hs := (Entails.of_eq (bigSep_sep' others _ _)) $$ Hs
  icases Hs with ⟨H1, H2⟩
  isplitl [H H1]
  · isplitl [H] <;> iassumption
  iexact H2

/-- and back. -/
theorem unread_part (c : Fin 32) :
    iprop(commPts c (Transfers.shareDrop fullShare 32) (commC m)
          ∗ bigSep others (fun d => bigSep Finset.univ (fun e : Fin 32 => rowPts c (c + d) (lent e) (commC m))))
      ⊢ iprop(rowPts c c (Transfers.shareDrop fullShare 32) (commC m) ∗ bigSep others (fun d => rowPts c (c + d) fullShare (commC m))) := by
  rw [comm_rows]
  have h : bigSep others (fun d => iprop(rowPts c (c + d) (Transfers.shareDrop fullShare 32) (commC m) ∗ bigSep Finset.univ (fun e : Fin 32 => rowPts c (c + d) (lent e) (commC m))))
      ⊢ bigSep others (fun d => rowPts c (c + d) fullShare (commC m)) :=
    bigSep_mono fun d _ => (row_split c (c + d) (commC m)).2
  iintro ⟨⟨H, H1⟩, H2⟩
  isplitl [H]; · iexact H
  iapply h
  iapply (Entails.of_eq (bigSep_sep' others _ _).symm)
  isplitl [H1] <;> iassumption

/-! ## Closing the cells -/

theorem close_one (g : GSem nD τ sig) (R : ℕ) (hR : ∀ r, R ≤ r → (Rd (F := F) m).duties g r = ∅) :
    iprop(known m g ∗ atPos ER g R ∅ 0) ⊢ iprop(|={Set.univ}=> semVal g 0) := by
  unfold known
  iintro ⟨⟨%κ, #HI, -⟩, Hat⟩
  iapply (Rounds.cell_close ER (Rd m) (Set.mem_univ κ) (fun h => h) hR)
  isplitr; · iexact HI
  iexact Hat

theorem close_many (c : Fin 32) (q : Fin 32 → DmaSem sig) (hq : ∀ d, 0 < (q d).val) :
    iprop(recs m ∗ bigSep others (fun d => atPos ER (dCell c (q d)) 1 ∅ 0)) ⊢ iprop(|={Set.univ}=> bigSep others (fun d => semVal (dCell c (q d)) 0)) := by
  refine (with_persistent (Ψ := fun d => iprop(|={Set.univ}=> semVal (dCell c (q d)) 0)) fun d _ => ?_).trans (bigSep_fupd _ _)
  exact (sep_mono_left (known_dma m c (q d) (hq d))).trans (close_one m _ 1 (duties_later m _))

theorem close_all (c : Fin 32) :
    iprop(recs m ∗ (atPos ER (barCell c) 1 ∅ 0 ∗ atPos ER (dCell c sL) 1 ∅ 0)
        ∗ (atPos ER (dCell c (sS 0)) 0 ∅ 0 ∗ bigSep others (fun d => atPos ER (dCell c (sS d)) 1 ∅ 0))
        ∗ (atPos ER (dCell c (sR c)) 0 ∅ 0 ∗ bigSep others (fun d => atPos ER (dCell c (sR (c + d : Fin 32))) 1 ∅ 0)))
      ⊢ iprop(|={Set.univ}=> closedAll (F := F) c) := by
  have hS : ∀ d : Fin 32, 0 < (sS d).val := fun d => by show 0 < 1 + d.val; omega
  have hR : ∀ d : Fin 32, 0 < (sR d).val := fun d => by show 0 < 33 + d.val; omega
  iintro ⟨#HR, ⟨HB, HL⟩, ⟨HS0, HS⟩, HRc, HRs⟩
  imod ((sep_mono_left (known_bar m c)).trans (close_one m (barCell c) 1 (duties_later m _))) $$ [HB] with HB
  · isplitr; · iexact HR
    iexact HB
  imod ((sep_mono_left (known_dma m c sL (by decide))).trans (close_one m (dCell c sL) 1 (duties_later m _))) $$ [HL] with HL
  · isplitr; · iexact HR
    iexact HL
  imod ((sep_mono_left (known_dma m c (sS 0) (hS 0))).trans (close_one m (dCell c (sS 0)) 0 (fun r _ => duties_send_self m c r))) $$ [HS0] with HS0
  · isplitr; · iexact HR
    iexact HS0
  imod ((sep_mono_left (known_dma m c (sR c) (hR c))).trans (close_one m (dCell c (sR c)) 0 (fun r _ => duties_recv_self m c r))) $$ [HRc] with HRc
  · isplitr; · iexact HR
    iexact HRc
  imod (close_many m c sS hS) $$ [HS] with HS
  · isplitr; · iexact HR
    iexact HS
  imod (close_many m c (fun d => sR (c + d)) (fun d => hR _)) $$ [HRs] with HRs
  · isplitr; · iexact HR
    iexact HRs
  imodintro
  unfold closedAll
  isplitl [HB]; · iexact HB
  isplitl [HL]; · iexact HL
  isplitl [HS0 HS]
  · rw [bigSep_univ_at _ (0 : Fin 32)]
    isplitl [HS0] <;> iassumption
  · rw [univ_around c]
    isplitl [HRc] <;> iassumption

/-! ## The body -/

/-- What a device runs from, and what it ends with. -/
def bodyIn (c : Dev nD) (W : Waits sig Unit) : sProp 𝕄 :=
  iprop(recs m ∗ linear c ∗ credits c ∗ levAts L lv ∗ argPts m c ∗ (∃ f, xvPts c f) ∗ (∃ f, commPts c fullShare f) ∗ (∃ g, outPts c g)
    ∗ owes (c : Thread nD τ) (O₀ c) W)
def bodyOut (c : Dev nD) : sProp 𝕄 :=
  iprop(argPts m c ∗ xvPts c (xIn m c) ∗ commPts c fullShare (commC m) ∗ outPts c (outV m) ∗ closedAll c ∗ ∃ W', owes (c : Thread nD τ) 0 W')

theorem wp_device {α : Type} {Q : α → sProp 𝕄} (c : Fin 32) (k : Dev nD → KProg F α) :
    wpc c (k c) Q ⊢ wpc c ((Prog.lift .deviceId : KProg F (Dev nD)) >>= k) Q :=
  Entails.of_eq (wp_deviceId (c := (c : Thread nD τ)) (k := k) 𝒱₀ none Set.univ).symm

set_option maxHeartbeats 1000000 in
theorem sound_body (c : Fin 32) (W : Waits sig Unit) (Kt : PUnit → sProp 𝕄) :
    iprop(bodyIn m c W ∗ (bodyOut m c -∗ Kt ⟨⟩))
      ⊢ wpc c (body argM (Memref.isWhole_whole _) outM (Memref.isWhole_whole _) xvM (Memref.isWhole_whole _) commM (Memref.isWhole_whole _)
          cc0_scratch2 cc0_scratch3 cc0_scratch4) Kt := by
  unfold bodyIn linear credits body
  iintro ⟨⟨#HR, ⟨⟨HatB, HatL, HatS, HatR⟩, HtL, HtB, HtS, HtR⟩, ⟨HcB, HcR⟩, #Hlev, Ha, ⟨%fx, Hx⟩, ⟨%fc, Hcm⟩, ⟨%go, Ho⟩, HO⟩, Hk⟩
  iapply (wp_device c)
  iapply (wp_issue m c fx) $$ [HtL Ha Hx]
  · isplitr; · iexact HR
    isplitl [HtL]; · iexact HtL
    isplitl [Ha] <;> iassumption
  iintro HcL
  -- the signals: every row but its own goes to the device that will write it
  rw [sigList_eq]
  ihave Hrows := (Entails.of_eq (comm_rows c fullShare fc)) $$ Hcm
  icases Hrows with ⟨Hown, Hrows⟩
  iapply (wp_signals m c offs (fun d h => by
      have := offs_set ▸ List.mem_toFinset.mpr h; exact Finset.ne_of_mem_erase this) (owedSend c sentList) W) $$ [HO HtB Hrows]
  · isplitr; · iexact HR
    isplitl [HO]; · unfold O₀; iexact HO
    iapply (sig_items c fc)
    isplitl [HtB] <;> iassumption
  iintro HO
  iapply (wp_loaded m c W) $$ [HO HcL HatL]
  · isplitr; · iexact HR
    isplitr; · iexact Hlev
    isplitl [HO]; · iexact HO
    isplitl [HcL] <;> iassumption
  iintro ⟨Ha, Hx, HatL, ⟨%W1, HO⟩⟩
  iapply (wp_readX c (xIn m c)) $$ Hx
  iintro Hx
  iapply (wp_ownRow m c fc (k0_off1 c) (k0_off1_inb c) (off1_eq c)) $$ Hown
  iintro Hown
  iapply (wp_barrier m c W1) $$ [HO HcB HatB]
  · isplitr; · iexact HR
    isplitr; · iexact Hlev
    isplitl [HO]; · iexact HO
    isplitl [HcB] <;> iassumption
  iintro ⟨Hfar, HatB, ⟨%W2, HO⟩⟩
  -- the copies: its own row is lent in parts
  ihave Hown := (row_split c c (commC m)).1 $$ Hown
  icases Hown with ⟨Hkeep, Hlent⟩
  ihave Hlent := (Entails.of_eq (bigSep_univ_at (fun d : Fin 32 => rowPts c c (lent d) (commC m)) 0)) $$ Hlent
  icases Hlent with ⟨Hl0, Hlent⟩
  have hsent : ∀ d ∈ sentList, d ≠ 0 := fun d h => by
    have := sent_set ▸ List.mem_toFinset.mpr h; exact Finset.ne_of_mem_erase this
  rw [sendList_eq]
  iapply (wp_sends m c sentList hsent 0 W2) $$ [HO HtS HtR Hlent Hfar]
  · isplitr; · iexact HR
    isplitl [HO]; · rw [zero_add]; iexact HO
    iapply (send_items m c)
    isplitl [HtS]; · iexact HtS
    isplitl [HtR]; · iexact HtR
    isplitl [Hlent] <;> iassumption
  iintro ⟨HcS, HO⟩
  ihave HatR := (Entails.of_eq (univ_around c (fun s : Fin 32 => (atPos ER (dCell c (sR s)) 0 ∅ 0 : sProp 𝕄)))) $$ HatR
  icases HatR with ⟨HatRc, HatR⟩
  iapply (wp_recvs m c recvList W2) $$ [HO HcR HatR]
  · isplitr; · iexact HR
    isplitl [HO]; · iexact HO
    iapply (recv_items c)
    isplitl [HcR] <;> iassumption
  iintro ⟨Hdone, ⟨%W3, HO⟩⟩
  ihave Hdone := (recv_dones m c) $$ Hdone
  icases Hdone with ⟨Hrows, HatR⟩
  ihave Hrd := (read_part m c) $$ [Hkeep Hrows]
  · isplitl [Hkeep] <;> iassumption
  icases Hrd with ⟨Hcm, Hrest⟩
  iapply (wp_reduce m c (Transfers.shareDrop fullShare 32) go) $$ [Hcm Ho]
  · isplitl [Hcm] <;> iassumption
  iintro ⟨Hcm, Ho⟩
  ihave Hrd := (unread_part m c) $$ [Hcm Hrest]
  · isplitl [Hcm] <;> iassumption
  icases Hrd with ⟨Hkeep, Hrows⟩
  -- the waits for its own copies
  ihave HatS := (Entails.of_eq (bigSep_univ_at (fun d : Fin 32 => (atPos ER (dCell c (sS d)) 0 ∅ 0 : sProp 𝕄)) 0)) $$ HatS
  icases HatS with ⟨HatS0, HatS⟩
  rw [← Prog.bind_pure (each _ sentList)]
  iapply (wp_sents m c sentList hsent W3) $$ [HO HcS HatS]
  · isplitr; · iexact HR
    isplitl [HO]; · iexact HO
    iapply (sent_items c)
    isplitl [HcS] <;> iassumption
  iintro ⟨Hdone, ⟨%W4, HO⟩⟩
  ihave Hdone := (sent_dones m c) $$ Hdone
  icases Hdone with ⟨Hlent, HatS⟩
  imod (close_all m c) $$ [HatB HatL HatS0 HatS HatRc HatR] with Hcl
  · isplitr; · iexact HR
    isplitl [HatB HatL]
    · isplitl [HatB] <;> iassumption
    isplitl [HatS0 HatS]
    · isplitl [HatS0] <;> iassumption
    isplitl [HatRc] <;> iassumption
  rw [Prog.pure_eq_ret, wp_ret]; imodintro
  iapply Hk
  unfold bodyOut
  isplitl [Ha]; · iexact Ha
  isplitl [Hx]; · iexact Hx
  isplitl [Hkeep Hl0 Hlent Hrows]
  · rw [comm_rows]
    isplitl [Hkeep Hl0 Hlent]
    · iapply (row_split c c (commC m)).2
      isplitl [Hkeep]; · iexact Hkeep
      iapply (Entails.of_eq (bigSep_univ_at (fun d : Fin 32 => rowPts c c (lent d) (commC m)) 0).symm)
      isplitl [Hl0] <;> iassumption
    iexact Hrows
  isplitl [Ho]; · iexact Ho
  isplitl [Hcl]; · iexact Hcl
  iexists W4
  iexact HO

end Cert.KernelIdealProof

end
-- ==== Proof.KernelIdealGhost.lean ====
/-
What the launch makes before the devices start: an invariant for every semaphore of every device, each device's place
at its own semaphores, and the rights to pay, dealt to the devices that pay; and what each device is owed.
-/
module

public import proofs.«01_k».proof.Proof.KernelIdealBody
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A device's cells, by what they are for -/

def atSend (d : Fin 32) : Fin 66 := ⟨1 + d.val, by have := d.isLt; omega⟩
def atRecv (s : Fin 32) : Fin 66 := ⟨33 + s.val, by have := s.isLt; omega⟩

theorem csem_send (d : Fin 32) : csem (atSend d) = SemLoc.dma (sS d) := by revert d; decide +kernel
theorem csem_recv (s : Fin 32) : csem (atRecv s) = SemLoc.dma (sR s) := by revert s; decide +kernel
theorem csem_load : csem 65 = SemLoc.dma sL := by decide +kernel

theorem atSend_inj : Function.Injective atSend := by decide +kernel
theorem atRecv_inj : Function.Injective atRecv := by decide +kernel

theorem all_cells : (Finset.univ : Finset (Fin 66)) = insert 0 (insert 65 (Finset.univ.image atSend ∪ Finset.univ.image atRecv)) := by decide +kernel
theorem apart : Disjoint (Finset.univ.image atSend) (Finset.univ.image atRecv) := by decide +kernel
theorem bar_apart : (0 : Fin 66) ∉ insert 65 (Finset.univ.image atSend ∪ Finset.univ.image atRecv) := by decide +kernel
theorem load_apart : (65 : Fin 66) ∉ Finset.univ.image atSend ∪ Finset.univ.image atRecv := by decide +kernel

theorem cells_split (c : Dev nD) (Φ : GSem nD τ sig → sProp 𝕄) :
    bigSep Finset.univ (fun k : Fin 66 => Φ (kcell (c, k)))
      = iprop(Φ (barCell c) ∗ Φ (dCell c sL) ∗ bigSep Finset.univ (fun d : Fin 32 => Φ (dCell c (sS d))) ∗ bigSep Finset.univ (fun s : Fin 32 => Φ (dCell c (sR s)))) := by
  rw [all_cells, BI.bigSep_insert bar_apart, BI.bigSep_insert load_apart, BI.bigSep_union apart,
    bigSep_image_of_injOn (fun a _ b _ e => atSend_inj e), bigSep_image_of_injOn (fun a _ b _ e => atRecv_inj e)]
  have hL : kcell (c, 65) = dCell c sL := congrArg (Prod.mk (c : Thread nD τ)) csem_load
  have hS (d : Fin 32) : kcell (c, atSend d) = dCell c (sS d) := congrArg (Prod.mk (c : Thread nD τ)) (csem_send d)
  have hR (s : Fin 32) : kcell (c, atRecv s) = dCell c (sR s) := congrArg (Prod.mk (c : Thread nD τ)) (csem_recv s)
  rw [hL, bigSep_congr (s := Finset.univ) (fun d _ => congrArg Φ (hS d)), bigSep_congr (s := Finset.univ) (fun s _ => congrArg Φ (hR s))]
  rfl

theorem cells_succ (c : Dev nD) (Φ : GSem nD τ sig → sProp 𝕄) :
    bigSep Finset.univ (fun k : Fin 66 => Φ (kcell (c, k)))
      = iprop(Φ (barCell c) ∗ bigSep Finset.univ (fun i : Fin 65 => Φ ((c : Thread nD τ), osem i))) := by
  rw [Fin.univ_succ, Finset.cons_eq_insert, BI.bigSep_insert (by simp [Fin.succ_ne_zero]), bigSep_map]
  rfl

theorem csem_inj : Function.Injective csem := by decide +kernel

theorem kcell_inj : Function.Injective (kcell : Dev nD × Fin 66 → GSem nD τ sig) := by
  rintro ⟨c, k⟩ ⟨c', k'⟩ h
  have h1 : c = c' := congrArg (fun g : GSem nD τ sig => g.1.1) h
  have h2 : k = k' := csem_inj (congrArg Prod.snd h)
  rw [h1, h2]

def theCells : Finset (GSem nD τ sig) := Finset.univ.map ⟨kcell, kcell_inj⟩

/-- A right to pay for every cell and every device; those that are no duty are dropped. -/
def tokOf (x : (Dev nD × Fin 66) × Dev nD) : GSem nD τ sig × ℕ × Dev nD := (kcell x.1, 0, x.2)
theorem tokOf_inj : Function.Injective tokOf := by
  rintro ⟨a, p⟩ ⟨a', p'⟩ h
  have h1 : a = a' := kcell_inj (congrArg Prod.fst h)
  have h2 : p = p' := congrArg (fun y : GSem nD τ sig × ℕ × Dev nD => y.2.2) h
  rw [h1, h2]
def theToks : Finset (GSem nD τ sig × ℕ × Dev nD) := Finset.univ.map ⟨tokOf, tokOf_inj⟩

def u₀ : UU := (initOf (Pipeline.cells cfgs cellOf_inj) (Pipeline.launchToks cfgs cellOf_inj), initOf theCells theToks)

/-- The rights to pay at device `c`'s cells. -/
def toks (c : Dev nD) : sProp 𝕄 := bigSep Finset.univ fun k : Fin 66 => bigSep Finset.univ fun p : Dev nD => dutyTok ER (kcell (c, k)) 0 p

/-- What the launch deals each device. -/
def G (c : Dev nD) : sProp 𝕄 :=
  iprop((bigSep Finset.univ fun k : Fin 66 => roundState ER (Rd m) (kcell (c, k)) 0)
    ∗ (bigSep Finset.univ fun k : Fin 66 => reached ER (kcell (c, k)) 0)
    ∗ (bigSep Finset.univ fun k : Fin 66 => atPos ER (kcell (c, k)) 0 ∅ 0) ∗ toks c)

/-- And what is made of it. -/
def G' (c : Dev nD) : sProp 𝕄 := iprop(recs m ∗ linear c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Fin 66 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod, bigSep_univ_prod]; rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

/-! ## The invariants -/

theorem unscoped_eq (c : Dev nD) : (unscopedSems0 c : sProp 𝕄) = semVal (barCell c) 0 := by
  unfold unscopedSems0; rw [bigSep_eq_bigSepL_of_eq [SemLoc.reg bar] (by decide +kernel) (by decide +kernel)]; rfl

theorem sems_eq (c : Dev nD) :
    iprop(semVal (barCell c) 0 ∗ Pipeline.ownSems0 (Ix := Unit) (Name := ℕ) (U := UU) (Lvl := ℕ) (Val := Elt F) (τ := τ) osem c)
      = (bigSep Finset.univ fun k : Fin 66 => semVal (kcell (c, k)) 0 : sProp 𝕄) :=
  (cells_succ c fun g => semVal g 0).symm

theorem known_intro (c : Dev nD) :
    iprop((bigSep Finset.univ fun k : Fin 66 => iprop(∃ κ : ℕ, cellInv ER (Rd m) κ (kcell (c, k)))) ∗ bigSep Finset.univ fun k : Fin 66 => reached ER (kcell (c, k)) 0)
      ⊢ (bigSep Finset.univ fun k : Fin 66 => known m (kcell (c, k)) : sProp 𝕄) := by
  rw [← bigSep_sep']
  refine bigSep_mono fun k _ => ?_
  unfold known
  show iprop((∃ κ : ℕ, cellInv ER (Rd m) κ (kcell (c, k))) ∗ reached ER (kcell (c, k)) 0)
    ⊢ iprop(∃ κ : ℕ, cellInv ER (Rd m) κ (kcell (c, k)) ∗ reached ER (kcell (c, k)) 0)
  iintro ⟨⟨%κ, #HI⟩, #Hr⟩
  iexists κ
  isplitr <;> iassumption

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 66 => known m (kcell (c, k)))
          ∗ (bigSep Finset.univ fun k : Fin 66 => atPos ER (kcell (c, k)) 0 ∅ 0) ∗ toks c) := by
  unfold G
  rw [unscoped_eq]
  iintro ⟨Hos, Hus, Hst, Hr, Hat, Htok⟩
  ihave Hv := (Entails.of_eq (sems_eq (F := F) c)) $$ [Hos Hus]
  · isplitl [Hus] <;> iassumption
  imod (show iprop((bigSep Finset.univ fun k : Fin 66 => semVal (kcell (c, k)) 0) ∗ bigSep Finset.univ fun k : Fin 66 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv Hr]
  · iapply (known_intro m c)
    isplitl [Hinv] <;> iassumption
  isplitl [Hat] <;> iassumption

/-! ## The rights to pay, dealt -/

/-- One device's four families, by cell. -/
theorem toks_split (c : Dev nD) : (toks c : sProp 𝕄)
    = iprop(bigSep Finset.univ (fun p : Dev nD => dutyTok ER (barCell c) 0 p) ∗ bigSep Finset.univ (fun p : Dev nD => dutyTok ER (dCell c sL) 0 p)
      ∗ bigSep Finset.univ (fun d : Fin 32 => bigSep Finset.univ (fun p : Dev nD => dutyTok ER (dCell c (sS d)) 0 p))
      ∗ bigSep Finset.univ (fun s : Fin 32 => bigSep Finset.univ (fun p : Dev nD => dutyTok ER (dCell c (sR s)) 0 p))) :=
  cells_split c fun g => bigSep Finset.univ fun p : Dev nD => dutyTok ER g 0 p

def payToks (c : Dev nD) : sProp 𝕄 :=
  iprop(dutyTok ER (dCell c sL) 0 0 ∗ bigSep others (fun d => dutyTok ER (barCell (c + d : Fin 32)) 0 c)
      ∗ bigSep others (fun d => dutyTok ER (dCell c (sS d)) 0 0) ∗ bigSep others (fun d => dutyTok ER (dCell (c + d : Fin 32) (sR c)) 0 0))

theorem one_of (g : GSem nD τ sig) : bigSep Finset.univ (fun p : Dev nD => (dutyTok ER g 0 p : sProp 𝕄)) ⊢ dutyTok ER g 0 0 :=
  bigSep_elim (Finset.mem_univ 0)

theorem far_ones (c : Fin 32) (Φ : Fin 32 → sProp 𝕄) : bigSep Finset.univ Φ ⊢ bigSep others (fun d => Φ (c + d)) := by
  rw [univ_around c Φ]; iintro ⟨-, H⟩; iexact H

theorem toks_deal : (bigSep Finset.univ fun c : Dev nD => (toks c : sProp 𝕄)) ⊢ bigSep Finset.univ fun c : Dev nD => payToks c := by
  have hB : bigSep Finset.univ (fun c : Dev nD => bigSep Finset.univ (fun p : Dev nD => (dutyTok ER (barCell c) 0 p : sProp 𝕄)))
      ⊢ bigSep Finset.univ fun c : Dev nD => bigSep others (fun d => dutyTok ER (barCell (c + d : Fin 32)) 0 c) := by
    rw [bigSep_univ_comm]
    exact bigSep_mono fun p _ => far_ones p fun c => dutyTok ER (barCell c) 0 p
  have hL : bigSep Finset.univ (fun c : Dev nD => bigSep Finset.univ (fun p : Dev nD => (dutyTok ER (dCell c sL) 0 p : sProp 𝕄)))
      ⊢ bigSep Finset.univ fun c : Dev nD => dutyTok ER (dCell c sL) 0 0 := bigSep_mono fun c _ => one_of _
  have hS : bigSep Finset.univ (fun c : Dev nD => bigSep Finset.univ (fun d : Fin 32 => bigSep Finset.univ (fun p : Dev nD => (dutyTok ER (dCell c (sS d)) 0 p : sProp 𝕄))))
      ⊢ bigSep Finset.univ fun c : Dev nD => bigSep others (fun d => dutyTok ER (dCell c (sS d)) 0 0) :=
    bigSep_mono fun c _ => (bigSep_mono fun d _ => one_of _).trans (BI.bigSep_subset (Finset.erase_subset _ _))
  have hR : bigSep Finset.univ (fun c : Dev nD => bigSep Finset.univ (fun s : Fin 32 => bigSep Finset.univ (fun p : Dev nD => (dutyTok ER (dCell c (sR s)) 0 p : sProp 𝕄))))
      ⊢ bigSep Finset.univ fun c : Dev nD => bigSep others (fun d => dutyTok ER (dCell (c + d : Fin 32) (sR c)) 0 0) := by
    refine (bigSep_mono fun c _ => bigSep_mono fun s _ => one_of _).trans ?_
    rw [bigSep_univ_comm]
    exact bigSep_mono fun s _ => far_ones s fun c => dutyTok ER (dCell c (sR s)) 0 0
  rw [bigSep_congr (s := Finset.univ) fun (c : Dev nD) _ => toks_split (F := F) c]
  unfold payToks
  rw [bigSep_sep', bigSep_sep', bigSep_sep', bigSep_sep', bigSep_sep', bigSep_sep']
  iintro ⟨H1, H2, H3, H4⟩
  isplitl [H2]; · iapply hL; iexact H2
  isplitl [H1]; · iapply hB; iexact H1
  isplitl [H3]; · iapply hS; iexact H3
  iapply hR; iexact H4

theorem linear_intro (c : Dev nD) :
    iprop((bigSep Finset.univ fun k : Fin 66 => atPos ER (kcell (c, k)) 0 ∅ 0) ∗ payToks c) ⊢ (linear c : sProp 𝕄) := by
  rw [cells_split c fun g => atPos ER g 0 ∅ 0]
  exact Entails.of_eq rfl

theorem regroup :
    (bigSep Finset.univ fun c : Dev nD => iprop((bigSep Finset.univ fun k : Fin 66 => known m (kcell (c, k)))
          ∗ (bigSep Finset.univ fun k : Fin 66 => atPos ER (kcell (c, k)) 0 ∅ 0) ∗ toks c) : sProp 𝕄)
      ⊢ bigSep Finset.univ (G' m) := by
  rw [bigSep_sep', bigSep_sep', ← bigSep_univ_prod (fun ck : Dev nD × Fin 66 => known m (kcell ck))]
  iintro ⟨#HI, Hat, Htok⟩
  ihave Htk := (toks_deal (F := F)) $$ Htok
  iapply (with_persistent (R := recs m) (Φ := fun c : Dev nD => linear c) fun c _ => Entails.of_eq (show iprop(recs m ∗ linear c) = G' m c from rfl))
  isplitr
  · unfold recs; iexact HI
  iapply ((Entails.of_eq (bigSep_sep' Finset.univ (fun c : Dev nD => bigSep Finset.univ fun k : Fin 66 => (atPos ER (kcell (c, k)) 0 ∅ 0 : sProp 𝕄)) payToks).symm).trans
    (bigSep_mono fun c _ => linear_intro (F := F) c))
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## What each device is owed -/

theorem sum_at {ι : Type} (f : ι → CellTallies nD τ sig Unit) (g : GSem nD τ sig) (u : Unit) (l : List ι) :
    (l.map f).sum g u = (l.map fun x => f x g u).sum := by
  induction l with
  | nil => rfl
  | cons x l ih => rw [List.map_cons, List.sum_cons, List.map_cons, List.sum_cons, ← ih]; rfl

theorem sum_zero {ι : Type} (f : ι → ℕ) (l : List ι) (h : ∀ x ∈ l, f x = 0) : (l.map f).sum = 0 := by
  induction l with
  | nil => rfl
  | cons x l ih => rw [List.map_cons, List.sum_cons, h x List.mem_cons_self, ih fun y hy => h y (List.mem_cons_of_mem _ hy)]

theorem sum_scaled {ι : Type} (p : ι → Prop) [DecidablePred p] (k : ℕ) (l : List ι) :
    (l.map fun x => if p x then k else 0).sum = k * (l.map fun x => if p x then 1 else 0).sum := by
  induction l with
  | nil => rfl
  | cons x l ih =>
    rw [List.map_cons, List.sum_cons, List.map_cons, List.sum_cons, ih, Nat.mul_add]
    congr 1
    by_cases h : p x
    · rw [if_pos h, if_pos h, Nat.mul_one]
    · rw [if_neg h, if_neg h, Nat.mul_zero]

theorem sR_inj {a b : Fin 32} (h : sR a = sR b) : a = b := by
  have h1 := congrArg Fin.val h
  exact Fin.ext (Nat.add_left_cancel h1)

theorem tally_bar (a c : Dev nD) : (tallyAt (barCell a) () 1 : CellTallies nD τ sig Unit) (barCell c) () = if a = c then 1 else 0 := by
  rw [tallyAt_apply]
  by_cases h : a = c
  · rw [if_pos h, if_pos ⟨by rw [h], rfl⟩]
  · rw [if_neg h, if_neg fun h' => h (congrArg (fun g : GSem nD τ sig => g.1.1) h'.1).symm]
theorem tally_recv (a c : Dev nD) (s : Fin 32) (q : DmaSem sig) (k : ℕ) (hq : q = sR s) :
    (tallyAt (dCell a q) () k : CellTallies nD τ sig Unit) (dCell c (sR s)) () = if a = c then k else 0 := by
  rw [tallyAt_apply]
  by_cases h : a = c
  · rw [if_pos h, if_pos ⟨by rw [h, hq], rfl⟩]
  · rw [if_neg h, if_neg fun h' => h (congrArg (fun g : GSem nD τ sig => g.1.1) h'.1).symm]
theorem tally_off {g g' : GSem nD τ sig} (k : ℕ) (h : g'.2 ≠ g.2) : (tallyAt g () k : CellTallies nD τ sig Unit) g' () = 0 := by
  rw [tallyAt_apply, if_neg fun h' => h (congrArg Prod.snd h'.1)]

theorem owed_bar (d c : Dev nD) : O₀ d (barCell c) () = (offs.map fun e => if (d + e : Fin 32) = c then 1 else 0).sum := by
  unfold O₀ owedSend owedSig
  rw [Pi.add_apply, Finsupp.add_apply, sum_at, sum_at, sum_zero _ _ fun x _ => tally_off N (fun h => by cases h), Nat.zero_add]
  exact congrArg List.sum (List.map_congr_left fun e _ => tally_bar _ c)

theorem owed_recv (d c : Dev nD) (s : Fin 32) : O₀ d (dCell c (sR s)) () = if d = s then N * (sentList.map fun e => if (d + e : Fin 32) = c then 1 else 0).sum else 0 := by
  unfold O₀ owedSend owedSig
  rw [Pi.add_apply, Finsupp.add_apply, sum_at, sum_at, sum_zero (fun x => (tallyAt (barCell (d + x)) () 1 : CellTallies nD τ sig Unit) _ ()) _ fun x _ => tally_off 1 (fun h => by cases h), Nat.add_zero]
  by_cases h : d = s
  · rw [if_pos h, ← sum_scaled]
    exact congrArg List.sum (List.map_congr_left fun e _ => tally_recv _ c s _ N (by rw [h]))
  · rw [if_neg h]
    exact sum_zero _ _ fun x _ => tally_off N fun h' => h (sR_inj (SemLoc.dma.inj h').symm)

set_option maxRecDepth 8192 in
theorem count_bar (c : Dev nD) : ∑ d : Dev nD, (offs.map fun e => if (d + e : Fin 32) = c then 1 else 0).sum = 31 := by revert c; decide +kernel
set_option maxRecDepth 8192 in
theorem count_recv (s c : Fin 32) : s ≠ c → (sentList.map fun e => if (s + e : Fin 32) = c then 1 else 0).sum = 1 := by revert s c; decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_recv (c : Dev nD) (s : Fin 32) (h : s ≠ c) :
    tallyOn (dCell c (sR s)) (launchCredit (Pipeline.owing O₀) 0 (dCell c (sR s))) = (tallyAt (dCell c (sR s)) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ s fun d => N * (sentList.map fun e => if (d + e : Fin 32) = c then 1 else 0).sum, if_pos (Finset.mem_univ _), count_recv s c h, Nat.mul_one]

theorem add_ne (c d : Fin 32) : d ≠ 0 → c + d ≠ c := by revert c d; decide +kernel

/-- Of a whole family, one member and some others. -/
theorem pick_some {I J : Type} [Fintype I] [DecidableEq I] [DecidableEq J] (Φ : I → sProp 𝕄) (a : I) (S : Finset J) (f : J → I)
    (hf : Function.Injective f) (ha : ∀ d, f d ≠ a) : bigSep Finset.univ Φ ⊢ iprop(Φ a ∗ bigSep S (fun d => Φ (f d))) := by
  rw [bigSep_univ_at Φ a]
  refine sep_mono_right ?_
  have hsub : S.image f ⊆ Finset.univ.erase a := fun x hx => by
    obtain ⟨d, -, rfl⟩ := Finset.mem_image.mp hx
    exact Finset.mem_erase.mpr ⟨ha d, Finset.mem_univ _⟩
  exact (BI.bigSep_subset hsub).trans (Entails.of_eq (bigSep_image_of_injOn (fun x _ y _ e => hf e) Φ))

theorem recv_ne_bar (s : Fin 32) : (SemLoc.dma (sR s) : SemLoc sig) ≠ .reg bar := fun h => by
  have h' := congrArg role h
  rw [role_recv, role_bar] at h'
  cases h'

theorem creds (c : Fin 32) : (Pipeline.launchCred O₀ c : sProp 𝕄) ⊢ credits c := by
  unfold Pipeline.launchCred credits
  rw [← launch_bar, bigSep_congr (s := others) fun d hd => congrArg cred (launch_recv c (c + d) (add_ne c d (Finset.ne_of_mem_erase hd))).symm]
  exact pick_some (fun sm => cred (tallyOn ((c : Thread nD τ), sm) (launchCredit (Pipeline.owing O₀) 0 ((c : Thread nD τ), sm)))) (.reg bar) others
    (fun d => .dma (sR (c + d))) (fun a b e => fin_cancel c a b (sR_inj (SemLoc.dma.inj e))) (fun d => recv_ne_bar _)

end Cert.KernelIdealProof

end
-- ==== Proof.KernelIdealLaunch.lean ====
/-
The run of the whole program: every device's body under the pipeline, from any memory with zero counters, to every
device's result, its argument unchanged, and every counter back at zero.
-/
module

public import proofs.«01_k».proof.Proof.KernelIdealGhost
public import proofs.«01_k».proof.Proof.Gen.KernelIdeal.Points
public import Idealize.ShloMosaic.Lib.Pipeline.CollectiveSegs
public import Idealize.ShloMosaic.Lib.Quiescent

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data -/

/-- What a device starts from, besides its buffers. -/
def start (c : Dev nD) : sProp 𝕄 := iprop((recs m ∗ linear c ∗ credits c ∗ levAts L lv) ∗ argPts m c)
def Φ₀ (c : Dev nD) : sProp 𝕄 := iprop(start m c ∗ (∃ f, xvPts c f) ∗ ∃ f, commPts c fullShare f)
def Φ₁ (c : Dev nD) : sProp 𝕄 := iprop(argPts m c ∗ xvPts c (xIn m c) ∗ commPts c fullShare (commC m) ∗ closedAll c)

def dats (_ : Fin 1) (c : Dev nD) : Dat τ (Elt F) Unit ℕ UU ℕ cfg0 c where
  A w := m ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

abbrev pt : Fin cfg0.N := t0_0

def atEntry (c : Dev nD) : sProp 𝕄 :=
  iprop(Φ₀ m c ∗ (dats m 0 c).owesAt () pt.castSucc ∗ (∃ d, stg c cc0_stg0_0 ((dats m 0 c).before (0 : Fin 1) pt d)))
def atExit (c : Dev nD) : sProp 𝕄 :=
  iprop(Φ₁ m c ∗ (dats m 0 c).owesAt () pt.succ ∗ stg c cc0_stg0_0 (outV m))

theorem body_runs (c : Dev nD) :
    atEntry m c ⊢ wpc c (body argM (Memref.isWhole_whole _) outM (Memref.isWhole_whole _) xvM (Memref.isWhole_whole _) commM (Memref.isWhole_whole _)
          cc0_scratch2 cc0_scratch3 cc0_scratch4) (fun _ => atExit m c) := by
  unfold atEntry Φ₀ start
  iintro ⟨⟨⟨⟨#HR, Hlin, Hcr, #Hlev⟩, Ha⟩, Hx, Hc⟩, Ho, ⟨%d, %f, -, Hout⟩⟩
  unfold Dat.owesAt Pipeline.owesWithin
  icases Ho with ⟨%W, -, HO⟩
  rw [show (dats m 0 c).owed pt.castSucc = O₀ c from rfl]
  iapply (sound_body m c W fun _ => atExit m c)
  isplitr []
  · unfold bodyIn
    isplitr; · iexact HR
    isplitl [Hlin]; · iexact Hlin
    isplitl [Hcr]; · iexact Hcr
    isplitr; · iexact Hlev
    isplitl [Ha]; · iexact Ha
    isplitl [Hx]; · iexact Hx
    isplitl [Hc]; · iexact Hc
    isplitl [Hout]; · iexists f; iexact Hout
    iexact HO
  · unfold bodyOut atExit Φ₁ Dat.owesAt Pipeline.owesWithin
    rw [show (dats m 0 c).owed pt.succ = 0 from rfl]
    iintro ⟨Ha, Hx, Hc, Hout, Hcl, ⟨%W', HO⟩⟩
    isplitl [Ha Hx Hc Hcl]
    · isplitl [Ha]; · iexact Ha
      isplitl [Hx]; · iexact Hx
      isplitl [Hc] <;> iassumption
    isplitl [HO]
    · iexists W'
      isplitr; · ipureintro; exact fun _ _ => Or.inl trivial
      iexact HO
    iexists (outV m)
    isplitr; · ipureintro; rfl
    iexact Hout

set_option maxRecDepth 65536 in
theorem body_obligation (c : Dev nD) : BodyObligation (dats (F := F) m 0 c) (defs₀ (F := F)) 𝒱₀ () Set.univ := fun t => by
  rw [show t = pt from fin_N0 t]
  rw [bigSep_W0, bigSep_W0]
  simp only [owns_whole]
  show atEntry m c ⊢ wp frame (wpE (defs₀ (F := F)) 𝒱₀ (c : Thread nD τ) none) Set.univ
    (cc0_body argM (Memref.isWhole_whole _) outM (Memref.isWhole_whole _) xvM (Memref.isWhole_whole _) commM (Memref.isWhole_whole _)
          cc0_scratch2 cc0_scratch3 cc0_scratch4) (fun _ => atExit m c)
  rw [body_eq]
  exact body_runs m c

/-! ## Entry and exit -/

theorem share_eq (c : Dev nD) (w : Fin cfg0.W) : (dats m 0 c).share w = fullShare := by unfold Dat.share; split <;> rfl

theorem own_facts : Pipeline.OwnSemFacts cfg0.spec osem := by decide +kernel

theorem arg_eq (c : Dev nD) : (argPts m c : sProp 𝕄) = (((c : Thread nD τ).loc main_arg0) ↦{fullShare} m ((c : Thread nD τ).loc main_arg0)) := by
  show ((c : Thread nD τ).loc main_arg0 ↦[(View.whole main_arg0).set]{fullShare} m ((c : Thread nD τ).loc main_arg0) : sProp 𝕄) = _
  rw [View.set_whole]
theorem xv_eq (c : Dev nD) (f : (cc0_scratch0 : Ref sig .tc).ty.Contents (Elt F)) :
    (xvPts c f : sProp 𝕄) = (((c : Thread nD τ).loc cc0_scratch0) ↦{fullShare} f) := by
  show ((c : Thread nD τ).loc cc0_scratch0 ↦[(View.whole cc0_scratch0).set]{fullShare} f : sProp 𝕄) = _
  rw [View.set_whole]

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq, ← arg_eq]
  iintro ⟨Ha, Hlev, Hcr, -, HG⟩
  ihave Hc := (creds (F := F) c) $$ Hcr
  imodintro
  unfold start G'
  icases HG with ⟨HR, Hlin⟩
  isplitl
  · isplitr [Ha]
    · isplitl [HR]; · iexact HR
      isplitl [Hlin]; · iexact Hlin
      isplitl [Hc] <;> iassumption
    · iexact Ha
  · iempintro

theorem entry_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨⟨%f, Hx⟩, ⟨%f', Hc⟩⟩⟩
  isplitl [Hs]; · iexact Hs
  isplitl [Hx]
  · iexists f; rw [xv_eq]; iexact Hx
  · iexists f'; iexact Hc

theorem closed_eq (c : Dev nD) : (closedAll c : sProp 𝕄) = iprop(semVal (barCell c) 0 ∗ Pipeline.ownSems0 osem c) :=
  (cells_split c fun g => semVal g 0).symm.trans (sems_eq (F := F) c).symm

/-- What stays with a device: its counters that outlive the kernel, at zero, and its argument. -/
def left (c : Dev nD) : sProp 𝕄 := iprop(unscopedSems0 c ∗ argPts m c)

theorem exit_elim (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left
  rw [closed_eq, unscoped_eq, xv_eq]
  iintro ⟨Ha, Hx, Hc, HB, HS⟩
  isplitl [HB Ha]
  · isplitl [HB] <;> iassumption
  isplitl [HS]; · iexact HS
  isplitl [Hx]
  · iexists _; iexact Hx
  · iexists _; iexact Hc

theorem stage_level (w : Fin cfg0.W) (s : Fin (cfg0.win w).nbuf) : roleLevel (role (.dma ((cfg0.win w).sem s))) = 0 := by
  revert w s; decide +kernel

theorem waits (c : Dev nD) : (levAts L lv : sProp 𝕄) ⊢ Pipeline.cellsWaits cfgs (dats m) () 0 c :=
  Pipeline.cellsWaits_intro cfgs (dats m) () 0 c fun w s t =>
    mayWait_zero_level c _ (stage_level w s) _ (by
      rcases t with ⟨_ | _, ht⟩
      · exact fun g u h => h
      · exact fun g u h => absurd h (Nat.lt_irrefl 0))

/-! ## The run -/

theorem left_read (c : Dev nD) (s : Phys nD τ sig (Elt F)) :
    iprop(left m c ∗ SI s) ⊢ |={Set.univ}=> iprop(⌜s.mem.mem ((c : Thread nD τ).loc main_arg0) = m ((c : Thread nD τ).loc main_arg0)
      ∧ ∀ sm : SemLoc sig, sm.isScoped .tc = false → s.mem.sem ((c.tc : Thread nD τ), sm) = 0⌝ ∗ SI s) := by
  unfold left
  rw [arg_eq]
  iintro ⟨⟨Hu, Ha⟩, HSI⟩
  icombine HSI Ha gives %h
  imod (Pipeline.unscopedSems0_read (X := unscopedSems0 c) (c := c) fupd_intro s) $$ [Hu HSI] with ⟨%hs, HSI⟩
  · isplitl [Hu] <;> iassumption
  imodintro
  isplitr
  · ipureintro
    exact ⟨Buf.eq_of_forall_mem_univ h, hs⟩
  iexact HSI

def outArr (c : Dev nD) : Buf (Elt F) ((cfg0.win (0 : Fin 1)).arr.view.loc (c : Thread nD τ)) := (dats m 0 c).arrAt (0 : Fin 1) cfg0.N

set_option maxRecDepth 8000 in
/-- For any float values, from any memory with zero counters: the devices' run terminates, and every final state has
    each device's argument unchanged, its result array as the pipeline leaves it, and every counter at zero. -/
theorem run_main (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = outArr m c)
      ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := entry_intro m) (hout := exit_elim m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨Hu, -, HSI⟩
      iapply (left_read m c s')
      isplitl [Hu] <;> iassumption)
    (hQ := fun _ h hs => ⟨fun c => ⟨(h c).2.2.1, (h c).1 (0 : Fin 1)⟩, sem_eq_zero hs fun c => (h c).2.2.2⟩)

/-! ## The result array -/

set_option maxRecDepth 65536 in
theorem outArr_read (c : Dev nD) : (win0_0.blk t0_0).view.read (Elt F) (outArr m c) = outV m := by
  unfold outArr
  rw [show cfg0.N = (t0_0 : Fin cfg0.N).val + 1 from rfl, (dats m 0 c).arrAt_succ (0 : Fin 1) t0_0]
  rw [show (cfg0.win (0 : Fin 1)).flush t0_0 = true from flush0_0 t0_0, if_pos rfl]
  exact View.read_write_univ _ _

/-- The result on every device is the maximum of the filled communication buffer. -/
theorem outArr_eq (c : Dev nD) : outArr m c = outV m := by
  have hz : (fun a => (win0_0.index t0_0) a * main_v1.ty.shape.size a) = fun _ => 0 :=
    funext fun a => by fin_cases a <;> decide
  have hr := fun f => Memref.read_access_unit_zero (Elt F) main_v1 hz (fun a => by fin_cases a <;> decide) f
  have ho := outArr_read m c
  rw [hr] at ho
  exact ho

end Cert.KernelIdealProof

end
-- ==== Proof.Equation.lean ====
/-
The equation between the two programs' results, over the extended reals.

A maximum is described by what lies above it: a value bounds a column's maximum exactly when it bounds the starting value
and every entry of the column. So the maximum of the devices' maxima and the maximum of the whole column have the same
upper bounds, as each row of the whole array is one row of one device's block.
-/
module

public import proofs.«01_k».proof.Proof.KernelIdealLaunch
public import proofs.«01_k».proof.Proof.Gen.ReferenceIdeal.Run
public import Idealize.ShloMosaic.Lib.Layout
public import Idealize.ShloMosaic.Lib.KernelVsHost
public import Idealize.ShloMosaic.Lib.Pipeline.Value
public import Idealize.ShloMosaic.PureOps.Ideal.Laws

@[expose] public section

noncomputable section

namespace Cert.Equation

open Idealize.ShloMosaic Idealize.ShloMosaic.TcCoe

/-- The value that every maximum of this problem starts from. -/
abbrev start : EReal := (FloatOps.ofBits .bf16 0xFF80#16 : Ideal .bf16)

/-- What bounds a maximum along one axis: it bounds the starting value and every entry along that axis. -/
theorem max_le {s t : Shape} {a : Fin s.rank} (x : FVec Ideal s .bf16) (h : s.Reduces [a] t) (hφ : FKind.Formats .bf16)
    (hacc : (0xFF80#16 : BitVec 16) = FKind.maximumf.neutral .bf16 hφ) (j : t.Idx) (z : EReal) :
    (multiReduction .maximumf [a] t x 0xFF80#16 h hφ hacc j : EReal) ≤ z
      ↔ start ≤ z ∧ ∀ k : Fin (s.size a), (x (h.lift j k) : EReal) ≤ z := by
  have e := Ideal.multiReduction_maximumf_single x 0xFF80#16 h hφ hacc j
  rw [show ((multiReduction .maximumf [a] t x 0xFF80#16 h hφ hacc j : EReal) ≤ z)
    = ((Finset.univ : Finset (Fin (s.size a))).fold max start (x ∘ h.lift j) ≤ z) from congrArg (· ≤ z) e, Finset.fold_max_le]
  simp only [Finset.mem_univ, true_imp_iff, Function.comp]

/-- A column of an array of rows, as an index of the array of maxima. -/
def col (l : Fin 768) : (⟨1, ![768]⟩ : Shape).Idx := fun a => match a with
  | ⟨0, _⟩ => l

/-- The entry in row `r` and column `l` of an array of `n` rows. -/
def cell {n : ℕ} (r : Fin n) (l : Fin 768) : (⟨2, ![n, 768]⟩ : Shape).Idx := fun a => match a with
  | ⟨0, _⟩ => r
  | ⟨1, _⟩ => l

/-- Along the rows, the entry over column `l` at coordinate `r` is the one in row `r` and column `l`. -/
theorem lift_rows {n : ℕ} (h : (⟨2, ![n, 768]⟩ : Shape).Reduces [0] ⟨1, ![768]⟩) (l : Fin 768) (r : Fin n) :
    h.lift (col l) r = cell r l := by
  funext a
  apply Fin.ext
  match a with
  | ⟨0, _⟩ => rfl
  | ⟨1, _⟩ => rfl

/-- What bounds the maximum of a column: the starting value and the column's entries lie below it. -/
theorem max_rows_le {n : ℕ} (x : FVec Ideal ⟨2, ![n, 768]⟩ .bf16) (h : (⟨2, ![n, 768]⟩ : Shape).Reduces [0] ⟨1, ![768]⟩)
    (hφ : FKind.Formats .bf16) (hacc : (0xFF80#16 : BitVec 16) = FKind.maximumf.neutral .bf16 hφ) (l : Fin 768) (z : EReal) :
    (multiReduction .maximumf [0] ⟨1, ![768]⟩ x 0xFF80#16 h hφ hacc (col l) : EReal) ≤ z
      ↔ start ≤ z ∧ ∀ r : Fin n, (x (cell r l) : EReal) ≤ z := by
  refine (max_le x h hφ hacc (col l) z).trans (and_congr_right fun _ => forall_congr' fun r => ?_)
  exact iff_of_eq (congrArg (fun i => (x i : EReal) ≤ z) (lift_rows h l r))

/-- Row `r` of device `c`'s block is row `1536 · c + r` of the whole array. -/
theorem block_cell (x : FVec Ideal ⟨2, ![49152, 768]⟩ .bf16) (c : Fin 32) (r : Fin 1536) (l : Fin 768)
    (h : Layout.Tiles ⟨2, ![1536, 768]⟩ ⟨2, ![49152, 768]⟩ 0 32) (R : Fin 49152) (hR : R.val = c.val * 1536 + r.val) :
    Layout.block ⟨2, ![1536, 768]⟩ ⟨2, ![49152, 768]⟩ 0 32 c x h (cell r l) = x (cell R l) := by
  rw [Layout.block_apply]
  refine congrArg x (funext fun a => Fin.ext ?_)
  match a with
  | ⟨0, _⟩ => exact (Layout.idx_rows_val h c (cell r l)).1.trans hR.symm
  | ⟨1, _⟩ => exact (Layout.idx_rows_val h c (cell r l)).2

/-- What bounds every row of every device's block bounds every row of the whole array, and the other way round. -/
theorem rows_of_blocks (x : FVec Ideal ⟨2, ![49152, 768]⟩ .bf16) (l : Fin 768) (z : EReal)
    (h : Layout.Tiles ⟨2, ![1536, 768]⟩ ⟨2, ![49152, 768]⟩ 0 32) :
    (∀ (c : Fin 32) (r : Fin 1536), (Layout.block ⟨2, ![1536, 768]⟩ ⟨2, ![49152, 768]⟩ 0 32 c x h (cell r l) : EReal) ≤ z)
      ↔ ∀ R : Fin 49152, (x (cell R l) : EReal) ≤ z := by
  constructor
  · intro H R
    have e := block_cell x ⟨R.val / 1536, by omega⟩ ⟨R.val % 1536, by omega⟩ l h R (by
      show R.val = R.val / 1536 * 1536 + R.val % 1536
      omega)
    rw [← e]
    exact H _ _
  · intro H c r
    rw [block_cell x c r l h ⟨c.val * 1536 + r.val, by omega⟩ rfl]
    exact H _

/-! ## The kernel's side -/

section Kernel
open Cert.KernelIdeal Cert.KernelIdeal.Gen Cert.KernelIdealProof

/-- The row that a device sends holds, at column `l`, the maximum of that column of the device's block. -/
theorem pay1_col (v : Vec Ideal S1536x768 .bf16) (l : Fin 768) :
    k0_pay1 v (colIx l) = multiReduction .maximumf [0] S768 v 0xFF80#16 facts.reduces_S1536x768_S768 (.inr rfl) rfl (col l) := by
  unfold k0_pay1
  refine (shapeCast_addUnit_apply ![1, 768] _ _ (colIx l)).trans ?_
  refine (shapeCast_addUnit_apply ![768] _ _ _).trans ?_
  refine congrArg _ (funext fun a => ?_)
  match a with
  | ⟨0, _⟩ => rfl

/-- What bounds a device's result at column `l`: the starting value and every row of every device's block. -/
theorem outV_le (m : (ℓ : Loc nD τ sig) → Buf (Elt Ideal) ℓ) (i : S1x768.Idx) (l : Fin 768) (hl : (i 1).val = l.val) (z : EReal) :
    @LE.le EReal _ (outV m i) z ↔ start ≤ z ∧ ∀ (c : Fin 32) (r : Fin 1536), @LE.le EReal _ (xIn m c (cell r l)) z := by
  unfold outV k0_pay2
  refine (max_le (s := S32x1x768) (t := S1x768) (a := 0) (commC m) _ _ _ i z).trans ?_
  refine and_congr_right fun hz => forall_congr' fun c => ?_
  have e : commC m (facts.reduces_S32x1x768_S1x768.lift i c) = k0_pay1 (xIn m c) (colIx l) := by
    unfold commC
    have h0 : facts.reduces_S32x1x768_S1x768.lift i c 0 = c := Fin.ext rfl
    have h2 : facts.reduces_S32x1x768_S1x768.lift i c 2 = l := Fin.ext hl
    rw [h0, h2]
  refine (iff_of_eq (congrArg (fun w => @LE.le EReal _ w z) (e.trans (pay1_col (xIn m c) l)))).trans ?_
  exact (max_rows_le (n := 1536) (xIn m c) _ _ _ l z).trans (and_iff_right hz)

end Kernel

/-! ## The reference's side, and the equation -/

section Reference
open Cert.ReferenceIdeal Cert.ReferenceIdeal.Gen

/-- The reference's result from the whole array. -/
def refV (x : FVec Ideal S49152x768 .bf16) : FVec Ideal S1x768 .bf16 :=
  broadcastInDim S1x768 ![1] facts.bcast_S768_S1x768_1 (Host.reduce FloatOps.maximumf x (constant S_ .bf16 0xFF80#16) facts.reducesTo_S49152x768_S768_d0 facts.h_S_)

/-- What bounds the reference's result at column `l`: the starting value and every row of the whole array. -/
theorem refV_le (x : FVec Ideal S49152x768 .bf16) (i : S1x768.Idx) (l : Fin 768) (hl : (i 1).val = l.val) (z : EReal) :
    (refV x i : EReal) ≤ z ↔ start ≤ z ∧ ∀ R : Fin 49152, (x (cell R l) : EReal) ≤ z := by
  unfold refV
  rw [broadcastInDim_apply (s := S768) (t := S1x768) ![1] facts.bcast_S768_S1x768_1 _ i (col l) (fun a => by
    match a with
    | ⟨0, _⟩ => exact hl.symm)]
  rw [hostReduce_maximumf_eq_multiReduction x 0xFF80#16 _ _ (by decide) (.inr rfl) rfl]
  exact max_rows_le (n := 49152) x _ _ _ l z

end Reference

/-- The kernel's result on every device is the reference's result, when device `c` holds block `c` of the reference's
    argument. -/
theorem outV_eq_refV (m : (ℓ : Loc Cert.KernelIdeal.nD Cert.KernelIdeal.τ Cert.KernelIdeal.sig) → Buf (Elt Ideal) ℓ)
    (x : FVec Ideal ⟨2, ![49152, 768]⟩ .bf16) (h : Layout.Tiles ⟨2, ![1536, 768]⟩ ⟨2, ![49152, 768]⟩ 0 32)
    (hx : ∀ c : Fin 32, Cert.KernelIdealProof.xIn m c = Layout.block ⟨2, ![1536, 768]⟩ ⟨2, ![49152, 768]⟩ 0 32 c x h) :
    Cert.KernelIdealProof.outV m = refV x := by
  funext i
  refine eq_of_forall_ge_iff (α := EReal) fun z => ?_
  rw [outV_le m i (i 1) rfl z, refV_le x i (i 1) rfl z, ← rows_of_blocks x (i 1) z h]
  exact and_congr_right fun _ => forall_congr' fun c => by rw [hx c]

end Cert.Equation
-- ==== Proof.lean ====
/- The certificate's claim, from the two runs of the kernel, the run of the reference and the equation between their
   results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of the kernel ends, with its argument unchanged and every counter at zero. -/
theorem frame_kernel : Cert.quiescent_Kernel := fun m g _ =>
  (θ_run Cert.Kernel.defs _ _).mono (fun r h => ⟨fun c => (h.1 c).1, h.2⟩) (Cert.KernelProof.run_main (F := Bits) m g)

/-- The same of the kernel over the extended reals. -/
theorem frame_kernelIdeal : Cert.quiescent_KernelIdeal := fun m g _ =>
  (θ_run Cert.KernelIdeal.defs _ _).mono (fun r h => ⟨fun c => (h.1 c).1, h.2⟩) (Cert.KernelIdealProof.run_main (F := Ideal) m g)

/-- The same of the reference, which has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From any memory in which device `c` holds block `c` of the reference's argument, the kernel leaves on every device
    what the reference computes. -/
theorem algebraic : Cert.algebraic_KernelIdeal_ReferenceIdeal := fun m g m' g' _ hx => by
  refine ⟨Cert.Equation.refV (m' ((0 : Dev Cert.ReferenceIdeal.nD).tc.loc Cert.ReferenceIdeal.main_arg0)), ?_, ?_⟩
  · refine (θ_run Cert.KernelIdeal.defs _ _).mono (fun r h c => ⟨?_, (h.1 c).1⟩) (Cert.KernelIdealProof.run_main (F := Ideal) m g)
    exact (h.1 c).2.trans ((Cert.KernelIdealProof.outArr_eq m c).trans (Cert.Equation.outV_eq_refV m _ (by decide) hx))
  · exact (θ_run Cert.ReferenceIdeal.defs _ _).mono (fun r h => h 0) (Cert.ReferenceIdeal.Value.run (F := Ideal) m' g')

/-- The certificate. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
